-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1x2048 : Shape := ⟨3, ![16, 1, 2048]⟩
abbrev S2048x4 : Shape := ⟨2, ![2048, 4]⟩
abbrev S4x2048x2816 : Shape := ⟨3, ![4, 2048, 2816]⟩
abbrev S4x2816 : Shape := ⟨2, ![4, 2816]⟩
abbrev S4x1408x2048 : Shape := ⟨3, ![4, 1408, 2048]⟩
abbrev S4x2048 : Shape := ⟨2, ![4, 2048]⟩
abbrev S_ : Shape := ⟨0, ![]⟩

class Facts : Prop where
  bcast_S_S16x1x2048 : S_.BroadcastsInDim S16x1x2048 (![] : Fin 0 → Fin S16x1x2048.rank)
  reducesTo_S16x1x2048_S_d0_1_2 : S16x1x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S16x1x2048 .bf16) (main_arg1 : FVec F S2048x4 .f32) (main_arg2 : FVec F S4x2048x2816 .fp8e4m3) (main_arg3 : FVec F S4x2816 .f32) (main_arg4 : FVec F S4x1408x2048 .fp8e4m3) (main_arg5 : FVec F S4x2048 .f32) : IVec S_ 1 :=
  let main_v0 : FVec F S16x1x2048 .bf16 := Host.absf main_arg0
  let main_cst : FVec F S_ .bf16 := constant S_ .bf16 0x7F80#16
  let main_v1 : FVec F S16x1x2048 .bf16 := broadcastInDim S16x1x2048 ![] bcast_S_S16x1x2048 main_cst
  let main_v2 : IVec S16x1x2048 1 := cmpf .olt main_v0 main_v1
  let main_c : IVec S_ 1 := constantI S_ 1 1#1
  let main_v3 : IVec S_ 1 := (fun x v => Host.reduce IntOp.andi x v reducesTo_S16x1x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S16x1x2048 : Shape := ⟨3, ![16, 1, 2048]⟩
abbrev S2048x4 : Shape := ⟨2, ![2048, 4]⟩
abbrev S4x2048x2816 : Shape := ⟨3, ![4, 2048, 2816]⟩
abbrev S4x2816 : Shape := ⟨2, ![4, 2816]⟩
abbrev S4x1408x2048 : Shape := ⟨3, ![4, 1408, 2048]⟩
abbrev S4x2048 : Shape := ⟨2, ![4, 2048]⟩
abbrev S16x2048 : Shape := ⟨2, ![16, 2048]⟩
abbrev S4x1x2816 : Shape := ⟨3, ![4, 1, 2816]⟩
abbrev S4x1x2048 : Shape := ⟨3, ![4, 1, 2048]⟩
abbrev S1x2048x2816 : Shape := ⟨3, ![1, 2048, 2816]⟩
abbrev S1x1x2816 : Shape := ⟨3, ![1, 1, 2816]⟩
abbrev S1x1408x2048 : Shape := ⟨3, ![1, 1408, 2048]⟩
abbrev S1x1x2048 : Shape := ⟨3, ![1, 1, 2048]⟩
abbrev S16x1 : Shape := ⟨2, ![16, 1]⟩
abbrev S16x4 : Shape := ⟨2, ![16, 4]⟩
abbrev S16 : Shape := ⟨1, ![16]⟩
abbrev S16x256 : Shape := ⟨2, ![16, 256]⟩
abbrev S2048x2816 : Shape := ⟨2, ![2048, 2816]⟩
abbrev S16x2816 : Shape := ⟨2, ![16, 2816]⟩
abbrev S1x2816 : Shape := ⟨2, ![1, 2816]⟩
abbrev S16x1408 : Shape := ⟨2, ![16, 1408]⟩
abbrev S1408x2048 : Shape := ⟨2, ![1408, 2048]⟩
abbrev S1x2048 : Shape := ⟨2, ![1, 2048]⟩

abbrev nBuf : Space → Nat
  | .hbm => 10
  | .vmem => 15
  | .smem => 0
  | _ => 0

abbrev bufTy : (tb : Table) → Fin (tcTables nBuf tb) → BufTy
  | .hbm, ⟨0, _⟩ => ⟨S16x1x2048, .bf16⟩
  | .hbm, ⟨1, _⟩ => ⟨S2048x4, .f32⟩
  | .hbm, ⟨2, _⟩ => ⟨S4x2048x2816, .fp8e4m3⟩
  | .hbm, ⟨3, _⟩ => ⟨S4x2816, .f32⟩
  | .hbm, ⟨4, _⟩ => ⟨S4x1408x2048, .fp8e4m3⟩
  | .hbm, ⟨5, _⟩ => ⟨S4x2048, .f32⟩
  | .hbm, ⟨6, _⟩ => ⟨S16x2048, .bf16⟩
  | .hbm, ⟨7, _⟩ => ⟨S4x1x2816, .f32⟩
  | .hbm, ⟨8, _⟩ => ⟨S4x1x2048, .f32⟩
  | .hbm, ⟨9, _⟩ => ⟨S16x2048, .bf16⟩
  | .local _ .vmem, ⟨0, _⟩ => ⟨S16x2048, .bf16⟩
  | .local _ .vmem, ⟨1, _⟩ => ⟨S2048x4, .f32⟩
  | .local _ .vmem, ⟨2, _⟩ => ⟨S1x2048x2816, .fp8e4m3⟩
  | .local _ .vmem, ⟨3, _⟩ => ⟨S1x2048x2816, .fp8e4m3⟩
  | .local _ .vmem, ⟨4, _⟩ => ⟨S1x1x2816, .f32⟩
  | .local _ .vmem, ⟨5, _⟩ => ⟨S1x1x2816, .f32⟩
  | .local _ .vmem, ⟨6, _⟩ => ⟨S1x1408x2048, .fp8e4m3⟩
  | .local _ .vmem, ⟨7, _⟩ => ⟨S1x1408x2048, .fp8e4m3⟩
  | .local _ .vmem, ⟨8, _⟩ => ⟨S1x1x2048, .f32⟩
  | .local _ .vmem, ⟨9, _⟩ => ⟨S1x1x2048, .f32⟩
  | .local _ .vmem, ⟨10, _⟩ => ⟨S16x2048, .bf16⟩
  | .local _ .vmem, ⟨11, _⟩ => ⟨S16x2048, .fp8e4m3⟩
  | .local _ .vmem, ⟨12, _⟩ => ⟨S16x1, .f32⟩
  | .local _ .vmem, ⟨13, _⟩ => ⟨S16x4, .f32⟩
  | .local _ .vmem, ⟨14, _⟩ => ⟨S16x2048, .f32⟩
  | _, _ => ⟨S16x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v110 : BitVec 1 := Scalar.cmpi .eq arg0 c3_i32
  let v111 : BitVec 32 := Scalar.extui v110
  let c0_i32_47 : BitVec 32 := 0#32
  let v112 : BitVec 1 := Scalar.cmpi .ne v111 c0_i32_47
  v112

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x2816 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1408x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x1x2048 : Shape := ⟨3, ![16, 1, 2048]⟩
abbrev S2048x4 : Shape := ⟨2, ![2048, 4]⟩
abbrev S4x2048x2816 : Shape := ⟨3, ![4, 2048, 2816]⟩
abbrev S4x2816 : Shape := ⟨2, ![4, 2816]⟩
abbrev S4x1408x2048 : Shape := ⟨3, ![4, 1408, 2048]⟩
abbrev S4x2048 : Shape := ⟨2, ![4, 2048]⟩
abbrev S16x2048 : Shape := ⟨2, ![16, 2048]⟩
abbrev S16x4 : Shape := ⟨2, ![16, 4]⟩
abbrev S16x2 : Shape := ⟨2, ![16, 2]⟩
abbrev S_ : Shape := ⟨0, ![]⟩
abbrev S16 : Shape := ⟨1, ![16]⟩
abbrev S16x1 : Shape := ⟨2, ![16, 1]⟩
abbrev S1x2048x2816 : Shape := ⟨3, ![1, 2048, 2816]⟩
abbrev S2048x2816 : Shape := ⟨2, ![2048, 2816]⟩
abbrev S16x2816 : Shape := ⟨2, ![16, 2816]⟩
abbrev S1x2816 : Shape := ⟨2, ![1, 2816]⟩
abbrev S16x1408 : Shape := ⟨2, ![16, 1408]⟩
abbrev S1x1408x2048 : Shape := ⟨3, ![1, 1408, 2048]⟩
abbrev S1408x2048 : Shape := ⟨2, ![1408, 2048]⟩
abbrev S1x2048 : Shape := ⟨2, ![1, 2048]⟩

abbrev nBuf : Space → Nat
  | .hbm => 26
  | .vmem => 8
  | .smem => 0
  | _ => 0

abbrev bufTy : (tb : Table) → Fin (tcTables nBuf tb) → BufTy
  | .hbm, ⟨0, _⟩ => ⟨S16x1x2048, .bf16⟩
  | .hbm, ⟨1, _⟩ => ⟨S2048x4, .f32⟩
  | .hbm, ⟨2, _⟩ => ⟨S4x2048x2816, .fp8e4m3⟩
  | .hbm, ⟨3, _⟩ => ⟨S4x2816, .f32⟩
  | .hbm, ⟨4, _⟩ => ⟨S4x1408x2048, .fp8e4m3⟩
  | .hbm, ⟨5, _⟩ => ⟨S4x2048, .f32⟩
  | .hbm, ⟨6, _⟩ => ⟨S16x2048, .bf16⟩
  | .hbm, ⟨7, _⟩ => ⟨S16x2048, .f32⟩
  | .hbm, ⟨8, _⟩ => ⟨S16x4, .f32⟩
  | .hbm, ⟨9, _⟩ => ⟨S16x2, .f32⟩
  | .hbm, ⟨10, _⟩ => ⟨S16x2, .i32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16x1, .f32⟩
  | .hbm, ⟨17, _⟩ => ⟨S16x2, .f32⟩
  | .hbm, ⟨18, _⟩ => ⟨S16x2, .f32⟩
  | .hbm, ⟨19, _⟩ => ⟨S16x2, .f32⟩
  | .hbm, ⟨20, _⟩ => ⟨S_, .f32⟩
  | .hbm, ⟨21, _⟩ => ⟨S16, .f32⟩
  | .hbm, ⟨22, _⟩ => ⟨S16x1, .f32⟩
  | .hbm, ⟨23, _⟩ => ⟨S16x2, .f32⟩
  | .hbm, ⟨24, _⟩ => ⟨S16x2, .f32⟩
  | .hbm, ⟨25, _⟩ => ⟨S16x2048, .bf16⟩
  | .local _ .vmem, ⟨0, _⟩ => ⟨S16x2048, .bf16⟩
  | .local _ .vmem, ⟨1, _⟩ => ⟨S16x2, .i32⟩
  | .local _ .vmem, ⟨2, _⟩ => ⟨S16x2, .f32⟩
  | .local _ .vmem, ⟨3, _⟩ => ⟨S4x2048x2816, .fp8e4m3⟩
  | .local _ .vmem, ⟨4, _⟩ => ⟨S4x2816, .f32⟩
  | .local _ .vmem, ⟨5, _⟩ => ⟨S4x1408x2048, .fp8e4m3⟩
  | .local _ .vmem, ⟨6, _⟩ => ⟨S4x2048, .f32⟩
  | .local _ .vmem, ⟨7, _⟩ => ⟨S16x2048, .bf16⟩
  | _, _ => ⟨S16x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2048x2816 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1408x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Exponent.lean ====
/-
  THE QUANTISER'S EXPONENT, on one extended real: the kernel finds a power of two by counting thresholds and by
  laying an integer into an exponent field; the reference takes the floor of a logarithm and raises two to it. Both
  are stated here as functions of the row's largest magnitude, and the two pairs of scales are shown equal at every
  magnitude from zero to infinity.
-/
module

public import Idealize.ShloMosaic.Lib.Pointwise
public import Idealize.ShloMosaic.Lib.IndicatorCount

@[expose] public section

set_option maxRecDepth 16384

noncomputable section

namespace Experts

open Idealize Idealize.ShloMosaic

/-! ## The kernel's scales -/

/-- The kernel's exponent field of `v`: how many of the 256 numbers of exponent field `k` and fraction zero are at most
    `v`, less one. -/
def field (v : EReal) : BitVec 32 :=
  (Finset.univ : Finset (Fin 256)).fold IntOp.addi 0#32 (fun k =>
    Scalar.select (Ideal.cmp .oge v (Ideal.ofBits .f32 (IntOp.shli .vector (BitVec.ofNat 32 k.val) 23#32))) 1#32 0#32) - 1#32

/-- The kernel's exponent of a row whose largest magnitude is `a`: zero for a zero row, else `frexp`'s exponent of
    `a / 448`. -/
def kexp (a : EReal) : BitVec 32 :=
  Scalar.select (Ideal.cmp .oeq a (Ideal.ofBits .f32 0x00000000#32)) 0#32
    (Scalar.select
      (IntOp.ori (IntOp.cmpi .sle (field (a * Ideal.ofBits .f32 0x3B124925#32)) 0#32)
        (IntOp.cmpi .eq (field (a * Ideal.ofBits .f32 0x3B124925#32)) 255#32))
      0#32 (field (a * Ideal.ofBits .f32 0x3B124925#32) - 126#32))

/-- The kernel's power of two of exponent `e`: `e + 127`, kept between 0 and 255, laid into the exponent field. -/
def kpow (e : BitVec 32) : EReal :=
  Ideal.ofBits .f32 0x3F800000#32
    * Ideal.ofBits .f32 (IntOp.shli .vector (IntOp.minsi 255#32 (IntOp.maxsi 0#32 (e + 127#32))) 23#32)

/-! ## The reference's scales -/

/-- The reference's exponent of a row whose largest magnitude is `a`. -/
def rexp (a : EReal) : EReal :=
  Scalar.select (Ideal.cmp .oeq a (Ideal.ofBits .f32 0x00000000#32)) (Ideal.ofBits .f32 0x00000000#32)
    (Scalar.select
      (IntOp.ori (Ideal.cmp .olt (a * Ideal.ofBits .f32 0x3B124925#32) (Ideal.ofBits .f32 0x00800000#32))
        (Ideal.cmp .oeq (a * Ideal.ofBits .f32 0x3B124925#32) (Ideal.ofBits .f32 0x7F800000#32)))
      (Ideal.ofBits .f32 0x00000000#32)
      (Ideal.liftRound Int.floor (Ideal.div (Ideal.log (a * Ideal.ofBits .f32 0x3B124925#32))
        (Ideal.log (Ideal.ofBits .f32 0x40000000#32))) + Ideal.ofBits .f32 0x3F800000#32))

/-- The reference's power of two of exponent `n`: infinity above 127, zero below -126. -/
def rpow (n : EReal) : EReal :=
  Scalar.select (Ideal.cmp .ogt n (Ideal.ofBits .f32 0x42FE0000#32)) (Ideal.ofBits .f32 0x7F800000#32)
    (Scalar.select (Ideal.cmp .olt n (Ideal.ofBits .f32 0xC2FC0000#32)) (Ideal.ofBits .f32 0x00000000#32) (Ideal.exp2 n))

/-! ## The constants -/

theorem f32_zero : Ideal.ofBits .f32 0x00000000#32 = 0 := by
  simp [Ideal.ofBits, Ideal.ieee, -EReal.coe_mul]
theorem f32_one : Ideal.ofBits .f32 0x3F800000#32 = 1 := Ideal.ofBits_one_f32
theorem f32_two : Ideal.ofBits .f32 0x40000000#32 = ((2 : ℝ) : EReal) := by
  simp [Ideal.ofBits, Ideal.ieee, -EReal.coe_mul]; norm_num
theorem f32_127 : Ideal.ofBits .f32 0x42FE0000#32 = ((127 : ℝ) : EReal) := by
  simp [Ideal.ofBits, Ideal.ieee, -EReal.coe_mul]; norm_num
theorem f32_neg_126 : Ideal.ofBits .f32 0xC2FC0000#32 = ((-126 : ℝ) : EReal) := by
  simp [Ideal.ofBits, Ideal.ieee, -EReal.coe_mul]; norm_num
theorem f32_top : Ideal.ofBits .f32 0x7F800000#32 = ⊤ := by
  simp [Ideal.ofBits, Ideal.ieee, -EReal.coe_mul]
theorem f32_bot : Ideal.ofBits .f32 0xFF800000#32 = ⊥ := by
  simp [Ideal.ofBits, Ideal.ieee, -EReal.coe_mul]
theorem f32_min_normal : Ideal.ofBits .f32 0x00800000#32 = (((2 : ℝ) ^ (-126 : ℤ) : ℝ) : EReal) := by
  simp [Ideal.ofBits, Ideal.ieee, -EReal.coe_mul]; norm_num
/-- The factor by which a magnitude is multiplied, 1/448 rounded, is a positive real. -/
theorem f32_inv448 : ∃ r : ℝ, 0 < r ∧ Ideal.ofBits .f32 0x3B124925#32 = (r : EReal) := by
  refine ⟨_, ?_, by simp [Ideal.ofBits, Ideal.ieee, -EReal.coe_mul]; rfl⟩
  positivity

/-! ## The words -/

/-- The number of exponent field `n` and fraction zero. -/
def fieldVal (n : ℕ) : EReal :=
  if n = 255 then ⊤ else if n = 0 then 0 else (((2 : ℝ) ^ ((n : ℤ) - 127) : ℝ) : EReal)

theorem shift_fields : ∀ n : Fin 256,
    (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

/-- The word with `n` in its exponent field denotes that number. -/
theorem ofBits_shift (n : ℕ) (h : n < 256) :
    Ideal.ofBits .f32 (IntOp.shli .vector (BitVec.ofNat 32 n) 23#32) = fieldVal n := by
  obtain ⟨h1, h2, h3⟩ := shift_fields ⟨n, h⟩
  generalize IntOp.shli .vector (BitVec.ofNat 32 n) 23#32 = w at h1 h2 h3 ⊢
  have hw : Ideal.ofBits .f32 w = if n = 255 then ⊤ else if n = 0 then 0
      else (((1 : ℝ) * ((2 ^ 23 + 0 : ℕ) : ℝ) * (2 : ℝ) ^ ((n : ℤ) - 127 - 23) : ℝ) : EReal) := by
    show Ideal.ieee 8 23 w = _
    unfold Ideal.ieee
    simp [h1, h2, h3, -EReal.coe_mul]
  rw [hw]
  unfold fieldVal
  by_cases h255 : n = 255
  · rw [if_pos h255, if_pos h255]
  by_cases h0 : n = 0
  · rw [if_neg h255, if_neg h255, if_pos h0, if_pos h0]
  rw [if_neg h255, if_neg h255, if_neg h0, if_neg h0]
  refine congrArg (fun r : ℝ => (r : EReal)) ?_
  rw [zpow_sub₀ (by norm_num : (2 : ℝ) ≠ 0) ((n : ℤ) - 127) 23]
  norm_num
  ring

/-- The bounds kept on a small exponent word. -/
theorem clamp_word : ∀ k : Fin 512,
    IntOp.minsi 255#32 (IntOp.maxsi 0#32 (BitVec.ofInt 32 ((k.val : ℤ) - 256) + 127#32))
      = BitVec.ofNat 32 (min 255 (max 0 ((k.val : ℤ) - 256 + 127))).toNat := by
  decide +kernel

/-- Two to the integer `e`, infinity from 128 on and zero below -126. -/
def pw (e : ℤ) : EReal :=
  if 127 < e then ⊤ else if e < -126 then 0 else (((2 : ℝ) ^ e : ℝ) : EReal)

theorem kpow_ofInt (e : ℤ) (h : -256 ≤ e) (h' : e < 256) : kpow (BitVec.ofInt 32 e) = pw e := by
  have hc := clamp_word ⟨(e + 256).toNat, by omega⟩
  have hk : (((e + 256).toNat : ℕ) : ℤ) - 256 = e := by omega
  simp only [hk] at hc
  unfold kpow
  rw [hc, ofBits_shift _ (by omega), f32_one, one_mul]
  unfold fieldVal pw
  by_cases h1 : 127 < e
  · rw [if_pos (by omega), if_pos h1]
  by_cases h2 : e < -126
  · rw [if_neg (by omega), if_pos (by omega), if_neg h1, if_pos h2]
  rw [if_neg (by omega), if_neg (by omega), if_neg h1, if_neg h2]
  congr 2; omega

/-- The reference's power of two at an integer. -/
theorem rpow_int (e : ℤ) : rpow (((e : ℝ)) : EReal) = pw e := by
  unfold rpow pw
  rw [f32_127, f32_neg_126, f32_top, f32_zero]
  have h1 : (((127 : ℝ) : EReal) < ((e : ℝ) : EReal)) ↔ 127 < e := by
    rw [EReal.coe_lt_coe_iff]; exact_mod_cast Iff.rfl
  have h2 : (((e : ℝ) : EReal) < ((-126 : ℝ) : EReal)) ↔ e < -126 := by
    rw [EReal.coe_lt_coe_iff]; exact_mod_cast Iff.rfl
  unfold Ideal.cmp
  simp only [h1, h2, Scalar.select_ofBool, decide_eq_true_eq]
  by_cases a : 127 < e
  · simp [a]
  by_cases b : e < -126
  · simp [a, b]
  · simp only [a, b, if_false]
    show ((Real.rpow 2 (e : ℝ) : ℝ) : EReal) = _
    congr 1
    exact Real.rpow_intCast 2 e

/-! ## The count -/

/-- The kernel's exponent field as a number of thresholds. -/
theorem field_eq_card (v : EReal) :
    field v = BitVec.ofNat 32 ((Finset.univ : Finset (Fin 256)).filter fun k => fieldVal k.val ≤ v).card - 1#32 := by
  unfold field
  refine congrArg (fun w : BitVec 32 => w - 1#32) ?_
  have hfun : (fun k : Fin 256 =>
      Scalar.select (Ideal.cmp .oge v (Ideal.ofBits .f32 (IntOp.shli .vector (BitVec.ofNat 32 k.val) 23#32))) 1#32 0#32)
      = fun k : Fin 256 => (BitVec.ofBool (decide (fieldVal k.val ≤ v))).setWidth 32 := by
    funext k
    rw [ofBits_shift _ k.isLt]
    unfold Ideal.cmp
    by_cases h : fieldVal k.val ≤ v <;> simp [h, Scalar.select]
  rw [hfun, Idealize.ShloMosaic.IndicatorCount.fold_addi_setWidth_eq_card]
  refine congrArg (fun S : Finset (Fin 256) => BitVec.ofNat 32 S.card) (Finset.filter_congr fun k _ => ?_)
  by_cases h : fieldVal k.val ≤ v <;> simp [h]

/-- The thresholds at most an infinite value are all. -/
theorem field_top : field ⊤ = 255#32 := by
  rw [field_eq_card]; simp

/-- How many of the 256 thresholds are below `m + 1`, for `m` from 0 to 254. -/
theorem card_le (m : ℕ) (hm : m ≤ 254) : ((Finset.univ : Finset (Fin 256)).filter fun k => k.val ≤ m).card = m + 1 := by
  rw [show ((Finset.univ : Finset (Fin 256)).filter fun k => k.val ≤ m) = Finset.Iic ⟨m, by omega⟩ from by
    ext k; simp [Fin.le_def]]
  simp

/-- The field of a real below the least normal number is zero. -/
theorem field_small (r : ℝ) (h0 : 0 ≤ r) (h : r < (2 : ℝ) ^ (-126 : ℤ)) : field (r : EReal) = 0#32 := by
  rw [field_eq_card, show ((Finset.univ : Finset (Fin 256)).filter fun k => fieldVal k.val ≤ (r : EReal))
      = ((Finset.univ : Finset (Fin 256)).filter fun k => k.val ≤ 0) from ?_, card_le 0 (by omega)]
  · rfl
  · ext k
    have hk := k.isLt
    simp only [Finset.mem_filter, Finset.mem_univ, true_and]
    unfold fieldVal
    by_cases h255 : k.val = 255
    · simp [h255]
    by_cases hz : k.val = 0
    · simp [hz, h0]
    rw [if_neg h255, if_neg hz, EReal.coe_le_coe_iff]
    constructor
    · intro hle
      exfalso
      have : (2 : ℝ) ^ (-126 : ℤ) ≤ (2 : ℝ) ^ ((k.val : ℤ) - 127) := zpow_le_zpow_right₀ (by norm_num) (by omega)
      linarith
    · intro; omega

/-- The field of a real from the least normal number on, by the floor `n` of its base-two logarithm. -/
theorem field_normal (r : ℝ) (n : ℤ) (hn : -126 ≤ n) (hlo : (2 : ℝ) ^ n ≤ r) (hhi : r < (2 : ℝ) ^ (n + 1)) :
    field (r : EReal) = BitVec.ofInt 32 (min (n + 127) 254) := by
  rw [field_eq_card, show ((Finset.univ : Finset (Fin 256)).filter fun k => fieldVal k.val ≤ (r : EReal))
      = ((Finset.univ : Finset (Fin 256)).filter fun k => k.val ≤ (min (n + 127) 254).toNat) from ?_,
    card_le _ (by omega)]
  · rw [show (min (n + 127) 254) = (((min (n + 127) 254).toNat : ℕ) : ℤ) from by omega]
    generalize (min (n + 127) 254).toNat = m
    rw [BitVec.ofInt_natCast, Int.toNat_natCast]
    apply BitVec.eq_of_toNat_eq
    simp
    omega
  · ext k
    have hk := k.isLt
    have hr : 0 < r := lt_of_lt_of_le (by positivity) hlo
    simp only [Finset.mem_filter, Finset.mem_univ, true_and]
    unfold fieldVal
    by_cases h255 : k.val = 255
    · simp [h255]
    by_cases hz : k.val = 0
    · simp [hz, hr.le]
    rw [if_neg h255, if_neg hz, EReal.coe_le_coe_iff]
    constructor
    · intro hle
      have h2 : (2 : ℝ) ^ ((k.val : ℤ) - 127) < (2 : ℝ) ^ (n + 1) := lt_of_le_of_lt hle hhi
      have h3 := (zpow_lt_zpow_iff_right₀ (by norm_num : (1 : ℝ) < 2)).mp h2
      omega
    · intro hle
      exact le_trans (zpow_le_zpow_right₀ (by norm_num) (by omega)) hlo

/-! ## The two exponents -/

/-- The kernel's word of a field from 0 to 254. -/
theorem word_of_field : ∀ k : Fin 255,
    Scalar.select (IntOp.ori (IntOp.cmpi .sle (BitVec.ofInt 32 (k.val : ℤ)) 0#32)
        (IntOp.cmpi .eq (BitVec.ofInt 32 (k.val : ℤ)) 255#32)) 0#32 (BitVec.ofInt 32 (k.val : ℤ) - 126#32)
      = BitVec.ofInt 32 (if k.val = 0 then 0 else (k.val : ℤ) - 126) := by
  decide +kernel

theorem neg_word : ∀ k : Fin 512, 0#32 - BitVec.ofInt 32 ((k.val : ℤ) - 256) = BitVec.ofInt 32 (-((k.val : ℤ) - 256)) := by
  decide +kernel

/-- A magnitude's two exponents are two integers, the reference's unbounded above, the kernel's at most 128, and
    otherwise one. -/
theorem exponents (a : EReal) (h : 0 ≤ a) :
    ∃ n : ℤ, -125 ≤ n ∧ kexp a = BitVec.ofInt 32 (min n 128) ∧ rexp a = ((n : ℝ) : EReal) := by
  unfold kexp rexp
  rw [f32_zero, f32_top, f32_one, f32_two, f32_min_normal]
  obtain ⟨c, hc, hcv⟩ := f32_inv448
  rw [hcv]
  by_cases ha : a = 0
  · refine ⟨0, by norm_num, ?_, ?_⟩
    · simp [ha, Ideal.cmp, Scalar.select]
    · simp [ha, Ideal.cmp, Scalar.select]
  have hne : Ideal.cmp .oeq a 0 = 0#1 := by simp [Ideal.cmp, ha]
  rw [hne]
  simp only [ValueIdx.select_zero]
  induction a with
  | bot => simp at h
  | top =>
    rw [EReal.top_mul_coe_of_pos hc]
    refine ⟨0, by norm_num, ?_, ?_⟩
    · rw [field_top]; decide
    · simp [Ideal.cmp, Scalar.select, IntOp.ori]
  | coe x =>
    have hx : 0 < x := lt_of_le_of_ne (by exact_mod_cast h) (fun e => ha (by rw [← e]; rfl))
    rw [← EReal.coe_mul]
    set r := x * c with hr
    have hr0 : 0 < r := mul_pos hx hc
    have htop : Ideal.cmp .oeq (r : EReal) ⊤ = 0#1 := by simp [Ideal.cmp]
    rw [htop]
    by_cases hs : r < (2 : ℝ) ^ (-126 : ℤ)
    · refine ⟨0, by norm_num, ?_, ?_⟩
      · rw [field_small r hr0.le hs]; decide
      · have : Ideal.cmp .olt (r : EReal) (((2 : ℝ) ^ (-126 : ℤ) : ℝ) : EReal) = 1#1 := by
          simp only [Ideal.cmp, EReal.coe_lt_coe_iff, hs]; rfl
        rw [this]; simp [IntOp.ori, Scalar.select]
    · have hs' : Ideal.cmp .olt (r : EReal) (((2 : ℝ) ^ (-126 : ℤ) : ℝ) : EReal) = 0#1 := by
        simp only [Ideal.cmp, EReal.coe_lt_coe_iff, hs]; rfl
      rw [hs']
      set n : ℤ := ⌊Real.log r / Real.log 2⌋ with hn
      have hl2 : 0 < Real.log 2 := Real.log_pos (by norm_num)
      have hlo : (2 : ℝ) ^ n ≤ r := by
        have h1 : (n : ℝ) ≤ Real.log r / Real.log 2 := Int.floor_le _
        rw [le_div_iff₀ hl2] at h1
        rw [← Real.log_le_log_iff (by positivity) hr0, Real.log_zpow]
        exact h1
      have hhi : r < (2 : ℝ) ^ (n + 1) := by
        have h1 : Real.log r / Real.log 2 < (n : ℝ) + 1 := Int.lt_floor_add_one _
        rw [div_lt_iff₀ hl2] at h1
        rw [← Real.log_lt_log_iff hr0 (by positivity), Real.log_zpow]
        push_cast
        exact h1
      have hn126 : -126 ≤ n := by
        have h2 : (2 : ℝ) ^ (-126 : ℤ) < (2 : ℝ) ^ (n + 1) := lt_of_le_of_lt (not_lt.mp hs) hhi
        have h3 := (zpow_lt_zpow_iff_right₀ (by norm_num : (1 : ℝ) < 2)).mp h2
        omega
      refine ⟨n + 1, by omega, ?_, ?_⟩
      · rw [field_normal r n hn126 hlo hhi]
        have hw := word_of_field ⟨(min (n + 127) 254).toNat, by omega⟩
        have hk : (((min (n + 127) 254).toNat : ℕ) : ℤ) = min (n + 127) 254 := by omega
        simp only [hk] at hw
        rw [hw]
        congr 1
        split
        · omega
        · omega
      · have e1 : Ideal.log (r : EReal) = ((Real.log r : ℝ) : EReal) := by
          show (if r ≤ 0 then (⊥ : EReal) else ((Real.log r : ℝ) : EReal)) = _
          rw [if_neg (not_le.mpr hr0)]
        have e2 : Ideal.log ((2 : ℝ) : EReal) = ((Real.log 2 : ℝ) : EReal) := by
          show (if (2 : ℝ) ≤ 0 then (⊥ : EReal) else ((Real.log 2 : ℝ) : EReal)) = _
          rw [if_neg (by norm_num)]
        have e3 : Ideal.div ((Real.log r : ℝ) : EReal) ((Real.log 2 : ℝ) : EReal) = ((Real.log r / Real.log 2 : ℝ) : EReal) := by
          unfold Ideal.div
          rw [if_neg (by exact_mod_cast hl2.ne'), ← EReal.coe_inv, ← EReal.coe_mul, div_eq_mul_inv]
        have e4 : Ideal.liftRound Int.floor ((Real.log r / Real.log 2 : ℝ) : EReal) = ((n : ℝ) : EReal) := rfl
        rw [e1, e2, e3, e4]
        have e5 : IntOp.ori (0#1) (0#1) = 0#1 := by decide
        rw [e5, ValueIdx.select_zero]
        push_cast
        rfl

/-- The two scales of a row are one. -/
theorem scale_eq (a : EReal) (h : 0 ≤ a) : kpow (kexp a) = rpow (rexp a) := by
  obtain ⟨n, hn, hk, hr⟩ := exponents a h
  rw [hk, hr, kpow_ofInt _ (by omega) (by omega), rpow_int]
  unfold pw
  by_cases h1 : 127 < n
  · rw [if_pos (by omega), if_pos h1]
  · rw [show min n 128 = n from by omega]

/-- The two inverse scales of a row are one. -/
theorem inverse_eq (a : EReal) (h : 0 ≤ a) :
    kpow (0#32 - kexp a) = rpow (Ideal.ofBits .f32 0x00000000#32 - rexp a) := by
  obtain ⟨n, hn, hk, hr⟩ := exponents a h
  have hneg := neg_word ⟨(min n 128 + 256).toNat, by omega⟩
  have hk' : (((min n 128 + 256).toNat : ℕ) : ℤ) - 256 = min n 128 := by omega
  simp only [hk'] at hneg
  rw [hk, hr, hneg, kpow_ofInt _ (by omega) (by omega), f32_zero, zero_sub,
    show -((n : ℝ) : EReal) = (((-n : ℤ) : ℝ) : EReal) from by push_cast; rfl, rpow_int]
  unfold pw
  by_cases h1 : 127 < n
  · rw [if_neg (by omega), if_pos (by omega), if_neg (by omega), if_pos (by omega)]
  · rw [show min n 128 = n from by omega]

end Experts

end
-- ==== Proof.KernelValue.lean ====
/-
  THE KERNEL'S RESULT as a value: its first grid point quantises the tokens, routes them and clears the accumulator;
  each of its four points adds one expert's masked contribution to the accumulator; the last narrows it into the result.
-/
module

public import proofs.«01_k».proof.Proof.Gen.KernelIdeal.Value
public import Idealize.ShloMosaic.Lib.Pipeline.Value
public import Idealize.ShloMosaic.Lib.Tactic
public import Idealize.ShloMosaic.Lib.Pointwise

@[expose] public section

set_option maxRecDepth 16384

noncomputable section

namespace Cert.KernelIdeal.Value

open Idealize.ShloMosaic Idealize.ShloMosaic.TcCoe Idealize.ShloMosaic.Tactic Idealize.SL.Sem
open Idealize.ShloMosaic.Pipeline (Dat)
open Idealize.ShloMosaic.Pointwise
open Cert.KernelIdeal Cert.KernelIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- The tokens' codes, as the first point leaves them. -/
def codes (x : Vec F S16x2048 .bf16) : Vec F S16x2048 .fp8e4m3 := k0_pay18 (k0_pay3 x) (k0_pay16 (k0_pay3 x))

/-- The tokens' scales, as the first point leaves them. -/
def scales (x : Vec F S16x2048 .bf16) : Vec F S16x1 .f32 := k0_pay19 (k0_pay16 (k0_pay3 x))

/-- The gates, as the first point leaves them. -/
def gates (x : Vec F S16x2048 .bf16) (w : Vec F S2048x4 .f32) : Vec F S16x4 .f32 :=
  k0_pay15 (iota .tc S16x4 32 [1] iota_S16x4_d1_w32) (k0_pay6 x w) (k0_pay9 x w) (k0_pay12 x w) (k0_pay13 x w) (k0_pay14 x w)

/-- One point's step of the accumulator: the expert's blocks `x2 x3 x4 x5`, the codes, scales and gates carried. -/
def step (i : grid0.Coords) (x2 : Vec F S1x2048x2816 .fp8e4m3) (x3 : Vec F S1x1x2816 .f32) (x4 : Vec F S1x1408x2048 .fp8e4m3)
    (x5 : Vec F S1x1x2048 .f32) (xs0 : Vec F S16x2048 .fp8e4m3) (xs1 : Vec F S16x1 .f32) (xs2 : Vec F S16x4 .f32)
    (xs3 : Vec F S16x2048 .f32) : Vec F S16x2048 .f32 :=
  k0_pay1 (k0_pay22 i xs2) (k0_pay23 xs0 x2 xs1 x3) k0_pay27
    (k0_pay28 (k0_pay24 xs0 x2 xs1 x3) (k0_pay25 xs0 x2 xs1 x3)) (k0_pay29 (k0_pay24 xs0 x2 xs1 x3) (k0_pay25 xs0 x2 xs1 x3))
    k0_pay30 x4 x5 xs3

/-! ## What each case of the body leaves -/

section Cases

variable (c : Dev nD) (i : grid0.Coords)
  (arg1 : Memref sig .tc .vmem S16x2048 .bf16) (harg1 : arg1.IsWhole)
  (arg2 : Memref sig .tc .vmem S2048x4 .f32) (harg2 : arg2.IsWhole)
  (arg3 : Memref sig .tc .vmem S1x2048x2816 .fp8e4m3) (harg3 : arg3.IsWhole)
  (arg4 : Memref sig .tc .vmem S1x1x2816 .f32) (harg4 : arg4.IsWhole)
  (arg5 : Memref sig .tc .vmem S1x1408x2048 .fp8e4m3) (harg5 : arg5.IsWhole)
  (arg6 : Memref sig .tc .vmem S1x1x2048 .f32) (harg6 : arg6.IsWhole)
  (arg7 : Memref sig .tc .vmem S16x2048 .bf16) (harg7 : arg7.IsWhole)
  (arg8 : Memref sig .tc .vmem S16x2048 .fp8e4m3) (harg8 : arg8.IsWhole)
  (arg9 : Memref sig .tc .vmem S16x1 .f32) (harg9 : arg9.IsWhole)
  (arg10 : Memref sig .tc .vmem S16x4 .f32) (harg10 : arg10.IsWhole)
  (arg11 : Memref sig .tc .vmem S16x2048 .f32) (harg11 : arg11.IsWhole)
variable (x0 : Vec F S16x2048 .bf16) (x1 : Vec F S2048x4 .f32) (x2 : Vec F S1x2048x2816 .fp8e4m3) (x3 : Vec F S1x1x2816 .f32) (x4 : Vec F S1x1408x2048 .fp8e4m3) (x5 : Vec F S1x1x2048 .f32)
variable (xs0 : Vec F S16x2048 .fp8e4m3) (xs1 : Vec F S16x1 .f32) (xs2 : Vec F S16x4 .f32) (xs3 : Vec F S16x2048 .f32)

set_option maxHeartbeats 1000000 in
/-- The first point leaves the tokens' codes. -/
theorem sout0_A_0_eq (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = codes x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp only [View.canon_unit_zero (S := S16x1) z2, View.canon_unit_zero (S := S16x4) z2, View.canon_unit_zero (S := S16x2048) z2, View.canon_cons_unit_zero (S := S16x2048) z2, View.readCov_unit_zero (S := S16x2048) _ z2, View.readCov_unit_zero (S := S16x1) _ z2, View.readCov_unit_zero (S := S16x4) _ z2, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S16x2048) z2, View.ld_unit_zero (S := S2048x4) z2, View.ld_unit_zero (S := S16x1) z2, View.ld_unit_zero (S := S16x4) z2, View.ld_unit_zero (S := S1x2048x2816) z3, View.ld_unit_zero (S := S1x1x2816) z3, View.ld_unit_zero (S := S1x1408x2048) z3, View.ld_unit_zero (S := S1x1x2048) z3]
  rfl

set_option maxHeartbeats 1000000 in
/-- The first point leaves the tokens' scales. -/
theorem sout0_A_1_eq (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = scales x0 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp only [View.canon_unit_zero (S := S16x1) z2, View.canon_unit_zero (S := S16x4) z2, View.canon_unit_zero (S := S16x2048) z2, View.canon_cons_unit_zero (S := S16x2048) z2, View.readCov_unit_zero (S := S16x2048) _ z2, View.readCov_unit_zero (S := S16x1) _ z2, View.readCov_unit_zero (S := S16x4) _ z2, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S16x2048) z2, View.ld_unit_zero (S := S2048x4) z2, View.ld_unit_zero (S := S16x1) z2, View.ld_unit_zero (S := S16x4) z2, View.ld_unit_zero (S := S1x2048x2816) z3, View.ld_unit_zero (S := S1x1x2816) z3, View.ld_unit_zero (S := S1x1408x2048) z3, View.ld_unit_zero (S := S1x1x2048) z3]
  rfl

set_option maxHeartbeats 1000000 in
/-- The first point leaves the gates. -/
theorem sout0_A_2_eq (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 hc0 hc1 x0 x1 x2 x3 x4 x5 = gates x0 x1 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp only [View.canon_unit_zero (S := S16x1) z2, View.canon_unit_zero (S := S16x4) z2, View.canon_unit_zero (S := S16x2048) z2, View.canon_cons_unit_zero (S := S16x2048) z2, View.readCov_unit_zero (S := S16x2048) _ z2, View.readCov_unit_zero (S := S16x1) _ z2, View.readCov_unit_zero (S := S16x4) _ z2, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S16x2048) z2, View.ld_unit_zero (S := S2048x4) z2, View.ld_unit_zero (S := S16x1) z2, View.ld_unit_zero (S := S16x4) z2, View.ld_unit_zero (S := S1x2048x2816) z3, View.ld_unit_zero (S := S1x1x2816) z3, View.ld_unit_zero (S := S1x1408x2048) z3, View.ld_unit_zero (S := S1x1x2048) z3]
  rfl

set_option maxHeartbeats 1000000 in
/-- The first point's step starts at the cleared accumulator. -/
theorem sout0_A_3_eq (hc0 : cond0_0 i) (hc1 : ¬cond0_1 i) :
    sout0_A_3 c i arg1 harg1 arg2 harg2 arg3 harg3 arg4 harg4 arg5 harg5 arg6 harg6 arg7 harg7 arg8 harg8 arg9 harg9 arg10 harg10 arg11 harg11 hc0 hc1 x0 x1 x2 x3 x4 x5 = step i x2 x3 x4 x5 (codes x0) (scales x0) (gates x0 x1) (k0_pay21 k0_pay20) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  simp only [View.canon_unit_zero (S := S16x1) z2, View.canon_unit_zero (S := S16x4) z2, View.canon_unit_zero (S := S16x2048) z2, View.canon_cons_unit_zero (S := S16x2048) z2, View.readCov_unit_zero (S := S16x2048) _ z2, View.readCov_unit_zero (S := S16x1) _ z2, View.readCov_unit_zero (S := S16x4) _ z2, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S16x2048) z2, View.ld_unit_zero (S := S2048x4) z2, View.ld_unit_zero (S := S16x1) z2, View.ld_unit_zero (S := S16x4) z2, View.ld_unit_zero (S := S1x2048x2816) z3, View.ld_unit_zero (S := S1x1x2816) z3, View.ld_unit_zero (S := S1x1408x2048) z3, View.ld_unit_zero (S := S1x1x2048) z3]
  rfl

set_option maxHeartbeats 1000000 in
/-- A middle point steps the accumulator. -/
theorem sout0_B_3_eq (hc0 : ¬cond0_0 i) (hc1 : ¬cond0_1 i) :
    sout0_B_3 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = step i x2 x3 x4 x5 xs0 xs1 xs2 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_B
  dsimp only
  sl_unfold_words
  simp only [View.canon_unit_zero (S := S16x1) z2, View.canon_unit_zero (S := S16x4) z2, View.canon_unit_zero (S := S16x2048) z2, View.canon_cons_unit_zero (S := S16x2048) z2, View.readCov_unit_zero (S := S16x2048) _ z2, View.readCov_unit_zero (S := S16x1) _ z2, View.readCov_unit_zero (S := S16x4) _ z2, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S16x2048) z2, View.ld_unit_zero (S := S2048x4) z2, View.ld_unit_zero (S := S16x1) z2, View.ld_unit_zero (S := S16x4) z2, View.ld_unit_zero (S := S1x2048x2816) z3, View.ld_unit_zero (S := S1x1x2816) z3, View.ld_unit_zero (S := S1x1408x2048) z3, View.ld_unit_zero (S := S1x1x2048) z3]
  rfl

set_option maxHeartbeats 1000000 in
/-- The last point steps the accumulator. -/
theorem sout0_C_3_eq (hc0 : ¬cond0_0 i) (hc1 : cond0_1 i) :
    sout0_C_3 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = step i x2 x3 x4 x5 xs0 xs1 xs2 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_C
  dsimp only
  sl_unfold_words
  simp only [View.canon_unit_zero (S := S16x1) z2, View.canon_unit_zero (S := S16x4) z2, View.canon_unit_zero (S := S16x2048) z2, View.canon_cons_unit_zero (S := S16x2048) z2, View.readCov_unit_zero (S := S16x2048) _ z2, View.readCov_unit_zero (S := S16x1) _ z2, View.readCov_unit_zero (S := S16x4) _ z2, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S16x2048) z2, View.ld_unit_zero (S := S2048x4) z2, View.ld_unit_zero (S := S16x1) z2, View.ld_unit_zero (S := S16x4) z2, View.ld_unit_zero (S := S1x2048x2816) z3, View.ld_unit_zero (S := S1x1x2816) z3, View.ld_unit_zero (S := S1x1408x2048) z3, View.ld_unit_zero (S := S1x1x2048) z3]
  rfl

set_option maxHeartbeats 1000000 in
/-- The last point leaves the narrowed accumulator in the result. -/
theorem out0_C_6_eq (hc0 : ¬cond0_0 i) (hc1 : cond0_1 i) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = k0_pay2 (step i x2 x3 x4 x5 xs0 xs1 xs2 xs3) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_C
  dsimp only
  sl_unfold_words
  simp only [View.canon_unit_zero (S := S16x1) z2, View.canon_unit_zero (S := S16x4) z2, View.canon_unit_zero (S := S16x2048) z2, View.canon_cons_unit_zero (S := S16x2048) z2, View.readCov_unit_zero (S := S16x2048) _ z2, View.readCov_unit_zero (S := S16x1) _ z2, View.readCov_unit_zero (S := S16x4) _ z2, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S16x2048) z2, View.ld_unit_zero (S := S2048x4) z2, View.ld_unit_zero (S := S16x1) z2, View.ld_unit_zero (S := S16x4) z2, View.ld_unit_zero (S := S1x2048x2816) z3, View.ld_unit_zero (S := S1x1x2816) z3, View.ld_unit_zero (S := S1x1408x2048) z3, View.ld_unit_zero (S := S1x1x2048) z3]
  rfl

end Cases

/-! ## The four points in order -/

variable (m : (ℓ : Loc nD τ sig) → Buf (Elt F) ℓ) (c : Dev nD)

/-- Point `t`'s step on what the kernel reads: expert `t`'s blocks, and the codes, scales and gates of the tokens. -/
def point (t : Fin cfg0.N) (acc : Vec F S16x2048 .f32) : Vec F S16x2048 .f32 :=
  step (grid0.coords t) (iblk m c 2 t) (iblk m c 3 t) (iblk m c 4 t) (iblk m c 5 t) (codes (iblk m c 0 t0_0))
    (scales (iblk m c 0 t0_0)) (gates (iblk m c 0 t0_0) (iblk m c 1 t0_0)) acc

/-- The carried contents after the first point. -/
theorem state_first (junk) : (stAt0 m c t0_0.val t0_0.isLt junk).2
    = (codes (iblk m c 0 t0_0), scales (iblk m c 0 t0_0), gates (iblk m c 0 t0_0) (iblk m c 1 t0_0),
        point m c t0_0 (k0_pay21 k0_pay20)) := by
  rw [stAt0_A m c t0_0 _ (by decide) (by decide), sout0_A_0_eq, sout0_A_1_eq, sout0_A_2_eq, sout0_A_3_eq]
  rfl

/-- A middle point steps the accumulator and carries the rest. -/
theorem state_middle (t : Fin cfg0.N) (h0 : ¬t.val % 4 = 0) (h1 : ¬t.val % 4 = 3) (s) (a : Vec F S16x2048 .f32)
    (hs : s.2 = (codes (iblk m c 0 t0_0), scales (iblk m c 0 t0_0), gates (iblk m c 0 t0_0) (iblk m c 1 t0_0), a)) :
    (stAt0 m c t.val t.isLt s).2
      = (codes (iblk m c 0 t0_0), scales (iblk m c 0 t0_0), gates (iblk m c 0 t0_0) (iblk m c 1 t0_0), point m c t a) := by
  obtain ⟨o, s0, s1, s2, s3⟩ := s
  simp only [Prod.mk.injEq] at hs
  obtain ⟨rfl, rfl, rfl, rfl⟩ := hs
  rw [stAt0_B m c t _ h0 h1, sout0_B_3_eq]
  rfl

/-- The last point leaves the narrowed accumulator. -/
theorem state_last (t : Fin cfg0.N) (h0 : ¬t.val % 4 = 0) (h1 : t.val % 4 = 3) (s) (a : Vec F S16x2048 .f32)
    (hs : s.2 = (codes (iblk m c 0 t0_0), scales (iblk m c 0 t0_0), gates (iblk m c 0 t0_0) (iblk m c 1 t0_0), a)) :
    (stAt0 m c t.val t.isLt s).1 = k0_pay2 (point m c t a) := by
  obtain ⟨o, s0, s1, s2, s3⟩ := s
  simp only [Prod.mk.injEq] at hs
  obtain ⟨rfl, rfl, rfl, rfl⟩ := hs
  rw [stAt0_C m c t _ h0 h1, out0_C_6_eq]
  rfl

/-- THE RESULT: the four experts' steps in order from the cleared accumulator, narrowed. -/
theorem result_eq : G6 m c
    = k0_pay2 (point m c t0_3 (point m c t0_2 (point m c t0_1 (point m c t0_0 (k0_pay21 k0_pay20))))) := by
  rw [G6_last]
  refine state_last m c t0_3 (by decide) (by decide) _ _ ?_
  refine state_middle m c t0_2 (by decide) (by decide) _ _ ?_
  refine state_middle m c t0_1 (by decide) (by decide) _ _ ?_
  exact state_first m c _

/-! ## The blocks the points read, off the arguments -/

/-- The tokens: the argument without its middle axis of one. -/
theorem iblk0_eq : (iblk m c 0 t0_0 : Vec F S16x2048 .bf16)
    = shapeCast S16x2048 (m ((c : Thread nD τ).loc main_arg0) : Vec F S16x1x2048 .bf16) shapeCasts_S16x1x2048_S16x2048 := by
  have h : V m c main_v0 = shapeCast S16x2048 (m ((c : Thread nD τ).loc main_arg0) : Vec F S16x1x2048 .bf16) shapeCasts_S16x1x2048_S16x2048 := by
    entry_read; rfl
  rw [← h]
  funext j
  unfold iblk
  rw [View.read_apply]
  show V m c main_v0 _ = V m c main_v0 _
  refine congrArg _ (funext fun a => Fin.ext ?_)
  match a with
  | ⟨0, _⟩ => show 0 * 16 + 1 * (j 0).val = (j 0).val; omega
  | ⟨1, _⟩ => show 0 * 2048 + 1 * (j 1).val = (j 1).val; omega

/-- The router's weights: the argument. -/
theorem iblk1_eq : (iblk m c 1 t0_0 : Vec F S2048x4 .f32) = m ((c : Thread nD τ).loc main_arg1) := by
  rw [← V_main_arg1 m c]
  funext j
  unfold iblk
  rw [View.read_apply]
  show V m c main_arg1 _ = V m c main_arg1 _
  refine congrArg _ (funext fun a => Fin.ext ?_)
  match a with
  | ⟨0, _⟩ => show 0 * 2048 + 1 * (j 0).val = (j 0).val; omega
  | ⟨1, _⟩ => show 0 * 4 + 1 * (j 1).val = (j 1).val; omega

/-- A window that moves along the experts is at block `t` at point `t`. -/
theorem index_eq (t : Fin cfg0.N) : win0_2.index t 0 = t.val ∧ win0_3.index t 0 = t.val ∧ win0_4.index t 0 = t.val
    ∧ win0_5.index t 0 = t.val := by
  rcases fin_N0 t with rfl | rfl | rfl | rfl <;> decide

/-- Expert `e`'s gate and up weights at point `e`. -/
theorem iblk2_eq (t : Fin cfg0.N) (e : Fin 4) (h : t.val = e.val) : (iblk m c 2 t : Vec F S1x2048x2816 .fp8e4m3)
    = fun j => m ((c : Thread nD τ).loc main_arg2) (ix3 e (j 1) (j 2)) := by
  rw [← V_main_arg2 m c]
  funext j
  unfold iblk
  rw [View.read_apply]
  show V m c main_arg2 _ = V m c main_arg2 _
  refine congrArg _ (funext fun a => Fin.ext ?_)
  match a with
  | ⟨0, _⟩ => show win0_2.index t 0 * 1 + 1 * (j 0).val = e.val; have : (j 0).val < 1 := (j 0).isLt; rw [(index_eq t).1]; omega
  | ⟨1, _⟩ => show 0 * 2048 + 1 * (j 1).val = (j 1).val; omega
  | ⟨2, _⟩ => show 0 * 2816 + 1 * (j 2).val = (j 2).val; omega

/-- Expert `e`'s down weights at point `e`. -/
theorem iblk4_eq (t : Fin cfg0.N) (e : Fin 4) (h : t.val = e.val) : (iblk m c 4 t : Vec F S1x1408x2048 .fp8e4m3)
    = fun j => m ((c : Thread nD τ).loc main_arg4) (ix3 e (j 1) (j 2)) := by
  rw [← V_main_arg4 m c]
  funext j
  unfold iblk
  rw [View.read_apply]
  show V m c main_arg4 _ = V m c main_arg4 _
  refine congrArg _ (funext fun a => Fin.ext ?_)
  match a with
  | ⟨0, _⟩ => show win0_4.index t 0 * 1 + 1 * (j 0).val = e.val; have : (j 0).val < 1 := (j 0).isLt; rw [(index_eq t).2.2.1]; omega
  | ⟨1, _⟩ => show 0 * 1408 + 1 * (j 1).val = (j 1).val; omega
  | ⟨2, _⟩ => show 0 * 2048 + 1 * (j 2).val = (j 2).val; omega

/-- Expert `e`'s scales of the gate and up weights at point `e`: row `e` of the argument. -/
theorem iblk3_eq (t : Fin cfg0.N) (e : Fin 4) (h : t.val = e.val) : (iblk m c 3 t : Vec F S1x1x2816 .f32)
    = fun j => m ((c : Thread nD τ).loc main_arg3) (ix2 e (j 2)) := by
  have hv : V m c main_v1 = shapeCast S4x1x2816 (m ((c : Thread nD τ).loc main_arg3) : Vec F S4x2816 .f32) shapeCasts_S4x2816_S4x1x2816 := by
    entry_read; rfl
  funext j
  unfold iblk
  rw [View.read_apply]
  show V m c main_v1 _ = _
  rw [hv]
  simp only [pointwise]
  refine congrArg _ (congrArg₂ ix2 (Fin.ext ?_) (Fin.ext ?_))
  · show win0_3.index t 0 * 1 + 1 * (j 0).val = e.val
    have : (j 0).val < 1 := (j 0).isLt
    rw [(index_eq t).2.1]; omega
  · show 0 * 2816 + 1 * (j 2).val = (j 2).val
    omega

/-- Expert `e`'s scales of the down weights at point `e`: row `e` of the argument. -/
theorem iblk5_eq (t : Fin cfg0.N) (e : Fin 4) (h : t.val = e.val) : (iblk m c 5 t : Vec F S1x1x2048 .f32)
    = fun j => m ((c : Thread nD τ).loc main_arg5) (ix2 e (j 2)) := by
  have hv : V m c main_v2 = shapeCast S4x1x2048 (m ((c : Thread nD τ).loc main_arg5) : Vec F S4x2048 .f32) shapeCasts_S4x2048_S4x1x2048 := by
    entry_read; rfl
  funext j
  unfold iblk
  rw [View.read_apply]
  show V m c main_v2 _ = _
  rw [hv]
  simp only [pointwise]
  refine congrArg _ (congrArg₂ ix2 (Fin.ext ?_) (Fin.ext ?_))
  · show win0_5.index t 0 * 1 + 1 * (j 0).val = e.val
    have : (j 0).val < 1 := (j 0).isLt
    rw [(index_eq t).2.2.2]; omega
  · show 0 * 2048 + 1 * (j 2).val = (j 2).val
    omega

end Cert.KernelIdeal.Value

end
-- ==== Proof.ReferenceValue.lean ====
/-
  THE REFERENCE'S RESULT as a value: its one call quantises the tokens, computes every expert's output on all of them,
  and adds each output into the sum at the tokens that chose the expert, once per choice.
-/
module

public import proofs.«01_k».proof.Proof.Gen.ReferenceIdeal.Value
public import Idealize.ShloMosaic.Lib.Pipeline.Value
public import Idealize.ShloMosaic.Lib.Tactic
public import Idealize.ShloMosaic.Lib.Pointwise

@[expose] public section

set_option maxRecDepth 16384

noncomputable section

namespace Cert.ReferenceIdeal.Value

open Idealize.ShloMosaic Idealize.ShloMosaic.TcCoe Idealize.ShloMosaic.Tactic Idealize.SL.Sem
open Idealize.ShloMosaic.Pipeline (Dat)
open Idealize.ShloMosaic.Pointwise
open Cert.ReferenceIdeal Cert.ReferenceIdeal.Gen

variable {F : FTy → Type} [FloatOps F]

theorem z2 : (![0, 0] : Fin 2 → Nat) = fun _ => 0 := funext fun a => by fin_cases a <;> rfl

/-! ## The pieces of the call -/

/-- The greatest absolute value of each token. -/
def rowmaxX (v : FVec F S16x2048 .f32) : FVec F S16x1 .f32 :=
  shapeCast S16x1 (multiReduction .maximumf [1] S16 (absf v) 0xFF800000#32 reduces_S16x2048_S16 (.inl rfl) rfl) shapeCasts_S16_S16x1

/-- The greatest absolute value of each row of an expert's hidden values. -/
def rowmaxH (v : FVec F S16x1408 .f32) : FVec F S16x1 .f32 :=
  shapeCast S16x1 (multiReduction .maximumf [1] S16 (absf v) 0xFF800000#32 reduces_S16x1408_S16 (.inl rfl) rfl) shapeCasts_S16_S16x1

/-- The exponent of each row's scale, from the rows' greatest absolute values. -/
def expo (a : FVec F S16x1 .f32) : FVec F S16x1 .f32 :=
  have s : FVec F S16x1 .f32 := mulf a (broadcast S16x1 (Scalar.ofBits .f32 0x3B124925#32))
  select (cmpf .oeq a (broadcast S16x1 (Scalar.ofBits .f32 0x00000000#32))) (broadcast S16x1 (Scalar.ofBits .f32 0x00000000#32))
    (select (ori (cmpf .olt s (broadcast S16x1 (Scalar.ofBits .f32 0x00800000#32))) (cmpf .oeq s (broadcast S16x1 (Scalar.ofBits .f32 0x7F800000#32))))
      (broadcast S16x1 (Scalar.ofBits .f32 0x00000000#32))
      (addf (floor (divf (log s) (log (broadcast S16x1 (Scalar.ofBits .f32 0x40000000#32))))) (broadcast S16x1 (Scalar.ofBits .f32 0x3F800000#32))))

/-- Each row's scale. -/
def scale (a : FVec F S16x1 .f32) : FVec F S16x1 .f32 := k0_pay7 (expo a)

/-- What each row is multiplied by before it is rounded. -/
def inverse (a : FVec F S16x1 .f32) : FVec F S16x1 .f32 :=
  k0_pay7 (subf (broadcast S16x1 (Scalar.ofBits .f32 0x00000000#32)) (expo a))

/-- The tokens' codes. -/
def codesX (v : FVec F S16x2048 .f32) (r : FVec F S16x1 .f32) : FVec F S16x2048 .fp8e4m3 :=
  truncf .fp8e4m3 (minimumf (broadcast S16x2048 (Scalar.ofBits .f32 0x43E00000#32))
    (maximumf (broadcast S16x2048 (Scalar.ofBits .f32 0xC3E00000#32)) (mulf v (broadcastTo S16x2048 r broadcasts_S16x1_S16x2048)))) bitsLt_fp8e4m3_f32

/-- The hidden values' codes. -/
def codesH (v : FVec F S16x1408 .f32) (r : FVec F S16x1 .f32) : FVec F S16x1408 .fp8e4m3 :=
  truncf .fp8e4m3 (minimumf (broadcast S16x1408 (Scalar.ofBits .f32 0x43E00000#32))
    (maximumf (broadcast S16x1408 (Scalar.ofBits .f32 0xC3E00000#32)) (mulf v (broadcastTo S16x1408 r broadcasts_S16x1_S16x1408)))) bitsLt_fp8e4m3_f32

/-- The hidden values of an expert, from the tokens' codes and scales. -/
def hidden (cx : Vec F S16x2048 .fp8e4m3) (sx : Vec F S16x1 .f32) (wg : Vec F S1x2048x2816 .fp8e4m3) (ws : Vec F S1x2816 .f32) :
    FVec F S16x1408 .f32 := k0_pay16 cx sx wg ws

/-- An expert's output, from its hidden values' codes and scales. -/
def down (ch : FVec F S16x1408 .fp8e4m3) (sh : FVec F S16x1 .f32) (wd : Vec F S1x1408x2048 .fp8e4m3) (ws : Vec F S1x2048 .f32) :
    FVec F S16x2048 .f32 :=
  mulf (mulf (matmul dot_S16x1408_S1408x2048_S16x2048_1_0_0_1_n_n none ch (shapeCast S1408x2048 wd shapeCasts_S1x1408x2048_S1408x2048)
      (constant S16x2048 .f32 0x00000000#32)) (broadcastTo S16x2048 sh broadcasts_S16x1_S16x2048))
    (broadcastTo S16x2048 ws broadcasts_S1x2048_S16x2048)

/-- An expert's output on the quantised tokens, before any gate. -/
def output (cx : Vec F S16x2048 .fp8e4m3) (sx : Vec F S16x1 .f32) (wg : Vec F S1x2048x2816 .fp8e4m3) (wgs : Vec F S1x2816 .f32)
    (wd : Vec F S1x1408x2048 .fp8e4m3) (wds : Vec F S1x2048 .f32) : FVec F S16x2048 .f32 :=
  down (codesH (hidden cx sx wg wgs) (inverse (rowmaxH (hidden cx sx wg wgs)))) (scale (rowmaxH (hidden cx sx wg wgs))) wd wds

/-- One choice's term added to the sum: the expert's output times the gate where the choice is this expert. -/
def addTerm (e : BitVec 32) (y o : FVec F S16x2048 .f32) (i : Vec F S16x1 .i32) (g : Vec F S16x1 .f32) : FVec F S16x2048 .f32 :=
  addf y (select (broadcastTo S16x2048 (shapeCast S16x1 (cmpi .eq (shapeCast S16x1 i shapeCasts_S16x1_S16x1) (broadcast S16x1 e)) shapeCasts_S16x1_S16x1) broadcasts_S16x1_S16x2048)
    (mulf o (broadcastTo S16x2048 (shapeCast S16x1 g shapeCasts_S16x1_S16x1) broadcasts_S16x1_S16x2048))
    (broadcast S16x2048 (Scalar.ofBits .f32 0x00000000#32)))

/-- Both choices' terms of one expert. -/
def addExpert (e : BitVec 32) (y o : FVec F S16x2048 .f32) (i0 i1 : Vec F S16x1 .i32) (g0 g1 : Vec F S16x1 .f32) : FVec F S16x2048 .f32 :=
  addTerm e (addTerm e y o i0 g0) o i1 g1

section Call

variable (x0 : Vec F S16x2048 .bf16) (x1 : Vec F S16x2 .i32) (x2 : Vec F S16x2 .f32) (x3 : Vec F S4x2048x2816 .fp8e4m3)
  (x4 : Vec F S4x2816 .f32) (x5 : Vec F S4x1408x2048 .fp8e4m3) (x6 : Vec F S4x2048 .f32)

/-- The tokens' codes, from the tokens. -/
def tokenCodes : Vec F S16x2048 .fp8e4m3 := codesX (k0_pay2 x0) (inverse (rowmaxX (k0_pay2 x0)))

/-- The tokens' scales, from the tokens. -/
def tokenScales : Vec F S16x1 .f32 := scale (rowmaxX (k0_pay2 x0))

set_option maxHeartbeats 2000000 in
/-- The call's result: the four experts' terms in order from zero, narrowed. -/
theorem out_eq : out0_7 x0 x1 x2 x3 x4 x5 x6
    = truncf .bf16
      (addExpert 3#32
        (addExpert 2#32
          (addExpert 1#32
            (addExpert 0#32 k0_pay8
              (output (tokenCodes x0) (tokenScales x0) (View.ld x3 r0_1) (View.ld x4 r0_2) (View.ld x5 r0_3) (View.ld x6 r0_4))
              (View.ld x1 r0_5) (View.ld x1 r0_6) (View.ld x2 r0_5) (View.ld x2 r0_6))
            (output (tokenCodes x0) (tokenScales x0) (View.ld x3 r0_7) (View.ld x4 r0_8) (View.ld x5 r0_9) (View.ld x6 r0_10))
            (View.ld x1 r0_5) (View.ld x1 r0_6) (View.ld x2 r0_5) (View.ld x2 r0_6))
          (output (tokenCodes x0) (tokenScales x0) (View.ld x3 r0_11) (View.ld x4 r0_12) (View.ld x5 r0_13) (View.ld x6 r0_14))
          (View.ld x1 r0_5) (View.ld x1 r0_6) (View.ld x2 r0_5) (View.ld x2 r0_6))
        (output (tokenCodes x0) (tokenScales x0) (View.ld x3 r0_15) (View.ld x4 r0_16) (View.ld x5 r0_17) (View.ld x6 r0_18))
        (View.ld x1 r0_5) (View.ld x1 r0_6) (View.ld x2 r0_5) (View.ld x2 r0_6)) bitsLt_bf16_f32 := by
  unfold_out out0_7
  rw [View.canon_unit_zero (S := S16x2048) z2]
  simp only [View.ld_unit_zero (S := S16x2048) z2]
  rfl

end Call

/-! ## The rectangles the call loads: an expert's slabs and rows, a choice's column -/

/-- Expert 0's gate and up weights. -/
theorem ld_r0_1 (x : Vec F S4x2048x2816 .fp8e4m3) : (View.ld x r0_1 : Vec F S1x2048x2816 .fp8e4m3) = fun j => x (ix3 (0 : Fin 4) (j 1) (j 2)) := by
  funext j
  refine congrArg x (funext fun a => Fin.ext ?_)
  match a with
  | ⟨0, _⟩ => show 0 + 1 * (j 0).val = 0; have : (j 0).val < 1 := (j 0).isLt; omega
  | ⟨1, _⟩ => show 0 + 1 * (j 1).val = (j 1).val; omega
  | ⟨2, _⟩ => show 0 + 1 * (j 2).val = (j 2).val; omega

/-- Expert 0's gate and up scales. -/
theorem ld_r0_2 (x : Vec F S4x2816 .f32) : (View.ld x r0_2 : Vec F S1x2816 .f32) = fun j => x (ix2 (0 : Fin 4) (j 1)) := by
  funext j
  refine congrArg x (funext fun a => Fin.ext ?_)
  match a with
  | ⟨0, _⟩ => show 0 + 1 * (j 0).val = 0; have : (j 0).val < 1 := (j 0).isLt; omega
  | ⟨1, _⟩ => show 0 + 1 * (j 1).val = (j 1).val; omega

/-- Expert 0's down weights. -/
theorem ld_r0_3 (x : Vec F S4x1408x2048 .fp8e4m3) : (View.ld x r0_3 : Vec F S1x1408x2048 .fp8e4m3) = fun j => x (ix3 (0 : Fin 4) (j 1) (j 2)) := by
  funext j
  refine congrArg x (funext fun a => Fin.ext ?_)
  match a with
  | ⟨0, _⟩ => show 0 + 1 * (j 0).val = 0; have : (j 0).val < 1 := (j 0).isLt; omega
  | ⟨1, _⟩ => show 0 + 1 * (j 1).val = (j 1).val; omega
  | ⟨2, _⟩ => show 0 + 1 * (j 2).val = (j 2).val; omega

/-- Expert 0's down scales. -/
theorem ld_r0_4 (x : Vec F S4x2048 .f32) : (View.ld x r0_4 : Vec F S1x2048 .f32) = fun j => x (ix2 (0 : Fin 4) (j 1)) := by
  funext j
  refine congrArg x (funext fun a => Fin.ext ?_)
  match a with
  | ⟨0, _⟩ => show 0 + 1 * (j 0).val = 0; have : (j 0).val < 1 := (j 0).isLt; omega
  | ⟨1, _⟩ => show 0 + 1 * (j 1).val = (j 1).val; omega

/-- Expert 1's gate and up weights. -/
theorem ld_r0_7 (x : Vec F S4x2048x2816 .fp8e4m3) : (View.ld x r0_7 : Vec F S1x2048x2816 .fp8e4m3) = fun j => x (ix3 (1 : Fin 4) (j 1) (j 2)) := by
  funext j
  refine congrArg x (funext fun a => Fin.ext ?_)
  match a with
  | ⟨0, _⟩ => show 1 + 1 * (j 0).val = 1; have : (j 0).val < 1 := (j 0).isLt; omega
  | ⟨1, _⟩ => show 0 + 1 * (j 1).val = (j 1).val; omega
  | ⟨2, _⟩ => show 0 + 1 * (j 2).val = (j 2).val; omega

/-- Expert 1's gate and up scales. -/
theorem ld_r0_8 (x : Vec F S4x2816 .f32) : (View.ld x r0_8 : Vec F S1x2816 .f32) = fun j => x (ix2 (1 : Fin 4) (j 1)) := by
  funext j
  refine congrArg x (funext fun a => Fin.ext ?_)
  match a with
  | ⟨0, _⟩ => show 1 + 1 * (j 0).val = 1; have : (j 0).val < 1 := (j 0).isLt; omega
  | ⟨1, _⟩ => show 0 + 1 * (j 1).val = (j 1).val; omega

/-- Expert 1's down weights. -/
theorem ld_r0_9 (x : Vec F S4x1408x2048 .fp8e4m3) : (View.ld x r0_9 : Vec F S1x1408x2048 .fp8e4m3) = fun j => x (ix3 (1 : Fin 4) (j 1) (j 2)) := by
  funext j
  refine congrArg x (funext fun a => Fin.ext ?_)
  match a with
  | ⟨0, _⟩ => show 1 + 1 * (j 0).val = 1; have : (j 0).val < 1 := (j 0).isLt; omega
  | ⟨1, _⟩ => show 0 + 1 * (j 1).val = (j 1).val; omega
  | ⟨2, _⟩ => show 0 + 1 * (j 2).val = (j 2).val; omega

/-- Expert 1's down scales. -/
theorem ld_r0_10 (x : Vec F S4x2048 .f32) : (View.ld x r0_10 : Vec F S1x2048 .f32) = fun j => x (ix2 (1 : Fin 4) (j 1)) := by
  funext j
  refine congrArg x (funext fun a => Fin.ext ?_)
  match a with
  | ⟨0, _⟩ => show 1 + 1 * (j 0).val = 1; have : (j 0).val < 1 := (j 0).isLt; omega
  | ⟨1, _⟩ => show 0 + 1 * (j 1).val = (j 1).val; omega

/-- Expert 2's gate and up weights. -/
theorem ld_r0_11 (x : Vec F S4x2048x2816 .fp8e4m3) : (View.ld x r0_11 : Vec F S1x2048x2816 .fp8e4m3) = fun j => x (ix3 (2 : Fin 4) (j 1) (j 2)) := by
  funext j
  refine congrArg x (funext fun a => Fin.ext ?_)
  match a with
  | ⟨0, _⟩ => show 2 + 1 * (j 0).val = 2; have : (j 0).val < 1 := (j 0).isLt; omega
  | ⟨1, _⟩ => show 0 + 1 * (j 1).val = (j 1).val; omega
  | ⟨2, _⟩ => show 0 + 1 * (j 2).val = (j 2).val; omega

/-- Expert 2's gate and up scales. -/
theorem ld_r0_12 (x : Vec F S4x2816 .f32) : (View.ld x r0_12 : Vec F S1x2816 .f32) = fun j => x (ix2 (2 : Fin 4) (j 1)) := by
  funext j
  refine congrArg x (funext fun a => Fin.ext ?_)
  match a with
  | ⟨0, _⟩ => show 2 + 1 * (j 0).val = 2; have : (j 0).val < 1 := (j 0).isLt; omega
  | ⟨1, _⟩ => show 0 + 1 * (j 1).val = (j 1).val; omega

/-- Expert 2's down weights. -/
theorem ld_r0_13 (x : Vec F S4x1408x2048 .fp8e4m3) : (View.ld x r0_13 : Vec F S1x1408x2048 .fp8e4m3) = fun j => x (ix3 (2 : Fin 4) (j 1) (j 2)) := by
  funext j
  refine congrArg x (funext fun a => Fin.ext ?_)
  match a with
  | ⟨0, _⟩ => show 2 + 1 * (j 0).val = 2; have : (j 0).val < 1 := (j 0).isLt; omega
  | ⟨1, _⟩ => show 0 + 1 * (j 1).val = (j 1).val; omega
  | ⟨2, _⟩ => show 0 + 1 * (j 2).val = (j 2).val; omega

/-- Expert 2's down scales. -/
theorem ld_r0_14 (x : Vec F S4x2048 .f32) : (View.ld x r0_14 : Vec F S1x2048 .f32) = fun j => x (ix2 (2 : Fin 4) (j 1)) := by
  funext j
  refine congrArg x (funext fun a => Fin.ext ?_)
  match a with
  | ⟨0, _⟩ => show 2 + 1 * (j 0).val = 2; have : (j 0).val < 1 := (j 0).isLt; omega
  | ⟨1, _⟩ => show 0 + 1 * (j 1).val = (j 1).val; omega

/-- Expert 3's gate and up weights. -/
theorem ld_r0_15 (x : Vec F S4x2048x2816 .fp8e4m3) : (View.ld x r0_15 : Vec F S1x2048x2816 .fp8e4m3) = fun j => x (ix3 (3 : Fin 4) (j 1) (j 2)) := by
  funext j
  refine congrArg x (funext fun a => Fin.ext ?_)
  match a with
  | ⟨0, _⟩ => show 3 + 1 * (j 0).val = 3; have : (j 0).val < 1 := (j 0).isLt; omega
  | ⟨1, _⟩ => show 0 + 1 * (j 1).val = (j 1).val; omega
  | ⟨2, _⟩ => show 0 + 1 * (j 2).val = (j 2).val; omega

/-- Expert 3's gate and up scales. -/
theorem ld_r0_16 (x : Vec F S4x2816 .f32) : (View.ld x r0_16 : Vec F S1x2816 .f32) = fun j => x (ix2 (3 : Fin 4) (j 1)) := by
  funext j
  refine congrArg x (funext fun a => Fin.ext ?_)
  match a with
  | ⟨0, _⟩ => show 3 + 1 * (j 0).val = 3; have : (j 0).val < 1 := (j 0).isLt; omega
  | ⟨1, _⟩ => show 0 + 1 * (j 1).val = (j 1).val; omega

/-- Expert 3's down weights. -/
theorem ld_r0_17 (x : Vec F S4x1408x2048 .fp8e4m3) : (View.ld x r0_17 : Vec F S1x1408x2048 .fp8e4m3) = fun j => x (ix3 (3 : Fin 4) (j 1) (j 2)) := by
  funext j
  refine congrArg x (funext fun a => Fin.ext ?_)
  match a with
  | ⟨0, _⟩ => show 3 + 1 * (j 0).val = 3; have : (j 0).val < 1 := (j 0).isLt; omega
  | ⟨1, _⟩ => show 0 + 1 * (j 1).val = (j 1).val; omega
  | ⟨2, _⟩ => show 0 + 1 * (j 2).val = (j 2).val; omega

/-- Expert 3's down scales. -/
theorem ld_r0_18 (x : Vec F S4x2048 .f32) : (View.ld x r0_18 : Vec F S1x2048 .f32) = fun j => x (ix2 (3 : Fin 4) (j 1)) := by
  funext j
  refine congrArg x (funext fun a => Fin.ext ?_)
  match a with
  | ⟨0, _⟩ => show 3 + 1 * (j 0).val = 3; have : (j 0).val < 1 := (j 0).isLt; omega
  | ⟨1, _⟩ => show 0 + 1 * (j 1).val = (j 1).val; omega

/-- Column 0: the first choice. -/
theorem ld_r0_5 {α : EltTy} (x : Vec F S16x2 α) : (View.ld x r0_5 : Vec F S16x1 α) = fun j => x (ix2 (j 0) (0 : Fin 2)) := by
  funext j
  refine congrArg x (funext fun a => Fin.ext ?_)
  match a with
  | ⟨0, _⟩ => show 0 + 1 * (j 0).val = (j 0).val; omega
  | ⟨1, _⟩ => show 0 + 1 * (j 1).val = 0; have : (j 1).val < 1 := (j 1).isLt; omega

/-- Column 1: the second choice. -/
theorem ld_r0_6 {α : EltTy} (x : Vec F S16x2 α) : (View.ld x r0_6 : Vec F S16x1 α) = fun j => x (ix2 (j 0) (1 : Fin 2)) := by
  funext j
  refine congrArg x (funext fun a => Fin.ext ?_)
  match a with
  | ⟨0, _⟩ => show 0 + 1 * (j 0).val = (j 0).val; omega
  | ⟨1, _⟩ => show 1 + 1 * (j 1).val = 1; have : (j 1).val < 1 := (j 1).isLt; omega

/-! ## The host's lines before the call -/

section Host

variable (x : Vec F S16x1x2048 .bf16) (wr : Vec F S2048x4 .f32)

/-- The tokens without their middle axis of one. -/
def flat : Vec F S16x2048 .bf16 := shapeCast S16x2048 x shapeCasts_S16x1x2048_S16x2048

/-- The router's logits. -/
def logits : FVec F S16x4 .f32 :=
  Host.dotGeneral dot_S16x2048_S2048x4_S16x4_1_0_0_1_n_n none (extf .f32 (flat x) bitsLt_bf16_f32) wr

/-- The two greatest logits of each token. -/
def topValues (l : FVec F S16x4 .f32) : FVec F S16x2 .f32 := (Host.topK S16x2 1 (FloatOps.cmpfTotal .gt) l sliceFits_S16x4_S16x2).1

/-- The experts they belong to. -/
def topIndices (l : FVec F S16x4 .f32) : Vec F S16x2 .i32 := (Host.topK S16x2 1 (FloatOps.cmpfTotal .gt) l sliceFits_S16x4_S16x2).2

/-- The exponentials of the two logits, shifted by the greater. -/
def expShifted (v : FVec F S16x2 .f32) : FVec F S16x2 .f32 :=
  Host.exp (subf v (broadcastInDim S16x2 ![0, 1] bcast_S16x1_S16x2_0_1 (broadcastInDim S16x1 ![0] bcast_S16_S16x1_0
    (maximumf (broadcastInDim S16 ![] bcast_S_S16 (constant S_ .f32 0xFF800000#32))
      (Host.reduce FloatOps.maximumf v (constant S_ .f32 0xFF800000#32) reducesTo_S16x2_S16_d1 h_S_)))))

/-- The gates: the softmax of the two logits. -/
def softmax (v : FVec F S16x2 .f32) : FVec F S16x2 .f32 :=
  Host.divf (expShifted v) (broadcastInDim S16x2 ![0, 1] bcast_S16x1_S16x2_0_1 (broadcastInDim S16x1 ![0] bcast_S16_S16x1_0
    (Host.reduceAdd (expShifted v) (constant S_ .f32 0x00000000#32) reducesTo_S16x2_S16_d1 h_S_)))

end Host

/-! ## The result array -/

variable (m : (ℓ : Loc nD τ sig) → Buf (Elt F) ℓ) (ρ : Dev nD → PrngReg)

/-- The call's tokens. -/
theorem V_tokens (c : Dev nD) : V m c main_v0 = flat (m ((c : Thread nD τ).loc main_arg0)) := by
  entry_read; rfl

/-- The call's choices. -/
theorem V_indices (c : Dev nD) : V m c main_indices
    = topIndices (logits (m ((c : Thread nD τ).loc main_arg0)) (m ((c : Thread nD τ).loc main_arg1))) := by
  entry_read; rfl

/-- The call's gates. -/
theorem V_gates (c : Dev nD) : V m c main_v13
    = softmax (topValues (logits (m ((c : Thread nD τ).loc main_arg0)) (m ((c : Thread nD τ).loc main_arg1)))) := by
  entry_read; rfl

/-- Window 0's block is its whole array. -/
theorem iblk0_eq (c : Dev nD) : (iblk m c 0 t0_0 : Vec F S16x2048 .bf16) = V m c main_v0 := by
  funext j
  unfold iblk
  rw [View.read_apply]
  show V m c main_v0 _ = V m c main_v0 _
  refine congrArg _ (funext fun a => Fin.ext ?_)
  match a with
  | ⟨0, _⟩ => show 0 * 16 + 1 * (j 0).val = (j 0).val; omega
  | ⟨1, _⟩ => show 0 * 2048 + 1 * (j 1).val = (j 1).val; omega

/-- Window 1's block is its whole array. -/
theorem iblk1_eq (c : Dev nD) : (iblk m c 1 t0_0 : Vec F S16x2 .i32) = V m c main_indices := by
  funext j
  unfold iblk
  rw [View.read_apply]
  show V m c main_indices _ = V m c main_indices _
  refine congrArg _ (funext fun a => Fin.ext ?_)
  match a with
  | ⟨0, _⟩ => show 0 * 16 + 1 * (j 0).val = (j 0).val; omega
  | ⟨1, _⟩ => show 0 * 2 + 1 * (j 1).val = (j 1).val; omega

/-- Window 2's block is its whole array. -/
theorem iblk2_eq (c : Dev nD) : (iblk m c 2 t0_0 : Vec F S16x2 .f32) = V m c main_v13 := by
  funext j
  unfold iblk
  rw [View.read_apply]
  show V m c main_v13 _ = V m c main_v13 _
  refine congrArg _ (funext fun a => Fin.ext ?_)
  match a with
  | ⟨0, _⟩ => show 0 * 16 + 1 * (j 0).val = (j 0).val; omega
  | ⟨1, _⟩ => show 0 * 2 + 1 * (j 1).val = (j 1).val; omega

/-- Window 3's block is its whole array. -/
theorem iblk3_eq (c : Dev nD) : (iblk m c 3 t0_0 : Vec F S4x2048x2816 .fp8e4m3) = V m c main_arg2 := by
  funext j
  unfold iblk
  rw [View.read_apply]
  show V m c main_arg2 _ = V m c main_arg2 _
  refine congrArg _ (funext fun a => Fin.ext ?_)
  match a with
  | ⟨0, _⟩ => show 0 * 4 + 1 * (j 0).val = (j 0).val; omega
  | ⟨1, _⟩ => show 0 * 2048 + 1 * (j 1).val = (j 1).val; omega
  | ⟨2, _⟩ => show 0 * 2816 + 1 * (j 2).val = (j 2).val; omega

/-- Window 4's block is its whole array. -/
theorem iblk4_eq (c : Dev nD) : (iblk m c 4 t0_0 : Vec F S4x2816 .f32) = V m c main_arg3 := by
  funext j
  unfold iblk
  rw [View.read_apply]
  show V m c main_arg3 _ = V m c main_arg3 _
  refine congrArg _ (funext fun a => Fin.ext ?_)
  match a with
  | ⟨0, _⟩ => show 0 * 4 + 1 * (j 0).val = (j 0).val; omega
  | ⟨1, _⟩ => show 0 * 2816 + 1 * (j 1).val = (j 1).val; omega

/-- Window 5's block is its whole array. -/
theorem iblk5_eq (c : Dev nD) : (iblk m c 5 t0_0 : Vec F S4x1408x2048 .fp8e4m3) = V m c main_arg4 := by
  funext j
  unfold iblk
  rw [View.read_apply]
  show V m c main_arg4 _ = V m c main_arg4 _
  refine congrArg _ (funext fun a => Fin.ext ?_)
  match a with
  | ⟨0, _⟩ => show 0 * 4 + 1 * (j 0).val = (j 0).val; omega
  | ⟨1, _⟩ => show 0 * 1408 + 1 * (j 1).val = (j 1).val; omega
  | ⟨2, _⟩ => show 0 * 2048 + 1 * (j 2).val = (j 2).val; omega

/-- Window 6's block is its whole array. -/
theorem iblk6_eq (c : Dev nD) : (iblk m c 6 t0_0 : Vec F S4x2048 .f32) = V m c main_arg5 := by
  funext j
  unfold iblk
  rw [View.read_apply]
  show V m c main_arg5 _ = V m c main_arg5 _
  refine congrArg _ (funext fun a => Fin.ext ?_)
  match a with
  | ⟨0, _⟩ => show 0 * 4 + 1 * (j 0).val = (j 0).val; omega
  | ⟨1, _⟩ => show 0 * 2048 + 1 * (j 1).val = (j 1).val; omega

/-- What the call leaves, from its arrays. -/
def result (c : Dev nD) : Buf (Elt F) ((c : Thread nD τ).loc main_v14) :=
  out0_7 (iblk m c 0 t0_0) (iblk m c 1 t0_0) (iblk m c 2 t0_0) (iblk m c 3 t0_0) (iblk m c 4 t0_0) (iblk m c 5 t0_0) (iblk m c 6 t0_0)

/-- The one block of the result window, cut from and read off the same array, is that array. -/
theorem cut_eq (o : Vec F S16x2048 .bf16) :
    (cfg0.win 7).cut (grid0.coords t0_0) o = ((cfg0.win 7).blk t0_0).view.read (Elt F) o := by
  funext j
  rw [View.read_apply]
  show o _ = o _
  refine congrArg o (funext fun a => Fin.ext ?_)
  match a with
  | ⟨0, _⟩ => show (j 0).val = 0 * 16 + 1 * (j 0).val; omega
  | ⟨1, _⟩ => show (j 1).val = 0 * 2048 + 1 * (j 1).val; omega

/-- The one point writes back the result, whole. -/
theorem flushed_eq (c : Dev nD) (t : Fin cfg0.N) :
    (dats m 0 c).flushed 7 t = ((cfg0.win 7).blk t).view.read (Elt F) (result m c) := by
  rcases fin_N0 t with rfl
  exact (flushed7 m c t0_0).trans (cut_eq (result m c))

/-- The one block is the whole array. -/
theorem cover_eq (i : S16x2048.Idx) : ∃ t : Fin cfg0.N, (cfg0.win 7).flush t = true ∧ i ∈ ((cfg0.win 7).blk t).view.set := by
  refine ⟨t0_0, flush0_7 _, ?_⟩
  show i ∈ ((View.whole main_v14).slice (win0_7.rect t0_0)).set
  rw [View.set_slice_whole, Rect.mem_set_unit]
  intro a
  match a with
  | ⟨0, _⟩ => show 0 * 16 ≤ (i 0).val ∧ (i 0).val < 0 * 16 + 16; have : (i 0).val < 16 := (i 0).isLt; omega
  | ⟨1, _⟩ => show 0 * 2048 ≤ (i 1).val ∧ (i 1).val < 0 * 2048 + 2048; have : (i 1).val < 2048 := (i 1).isLt; omega

/-- So the result array ends holding the result. -/
theorem final_eq (c : Dev nD) : (dats m 0 c).arrAt 7 cfg0.N = result m c :=
  (dats m 0 c).arrAt_eq_of_cover 7 (result m c) (fun t _ => flushed_eq m c t) cover_eq

/-! ## The result off the arguments -/

section Args

variable (a2 : Vec F S4x2048x2816 .fp8e4m3) (a3 : Vec F S4x2816 .f32) (a4 : Vec F S4x1408x2048 .fp8e4m3) (a5 : Vec F S4x2048 .f32)

/-- Expert `e`'s output on the tokens `x`, off the weights' arguments. -/
def expert (x : Vec F S16x2048 .bf16) (e : Fin 4) : FVec F S16x2048 .f32 :=
  output (tokenCodes x) (tokenScales x) (fun j => a2 (ix3 e (j 1) (j 2))) (fun j => a3 (ix2 e (j 1)))
    (fun j => a4 (ix3 e (j 1) (j 2))) (fun j => a5 (ix2 e (j 1)))

/-- Expert `e`'s two terms added to the sum `y`, for choices `i` and gates `g`. -/
def addChosen (e : BitVec 32) (y o : FVec F S16x2048 .f32) (i : Vec F S16x2 .i32) (g : Vec F S16x2 .f32) : FVec F S16x2048 .f32 :=
  addExpert e y o (fun j => i (ix2 (j 0) (0 : Fin 2))) (fun j => i (ix2 (j 0) (1 : Fin 2)))
    (fun j => g (ix2 (j 0) (0 : Fin 2))) (fun j => g (ix2 (j 0) (1 : Fin 2)))

/-- The sum of the four experts' terms, for tokens `x`, choices `i` and gates `g`. -/
def total (x : Vec F S16x2048 .bf16) (i : Vec F S16x2 .i32) (g : Vec F S16x2 .f32) : FVec F S16x2048 .f32 :=
  addChosen 3#32 (addChosen 2#32 (addChosen 1#32 (addChosen 0#32 k0_pay8 (expert a2 a3 a4 a5 x 0) i g)
    (expert a2 a3 a4 a5 x 1) i g) (expert a2 a3 a4 a5 x 2) i g) (expert a2 a3 a4 a5 x 3) i g

end Args

/-- THE RESULT: the sum of the experts' terms for the router's choices and gates, narrowed. -/
theorem result_eq (c : Dev nD) : result m c
    = truncf .bf16 (total (m ((c : Thread nD τ).loc main_arg2)) (m ((c : Thread nD τ).loc main_arg3)) (m ((c : Thread nD τ).loc main_arg4))
        (m ((c : Thread nD τ).loc main_arg5)) (flat (m ((c : Thread nD τ).loc main_arg0)))
        (topIndices (logits (m ((c : Thread nD τ).loc main_arg0)) (m ((c : Thread nD τ).loc main_arg1))))
        (softmax (topValues (logits (m ((c : Thread nD τ).loc main_arg0)) (m ((c : Thread nD τ).loc main_arg1)))))) bitsLt_bf16_f32 := by
  unfold result
  rw [out_eq]
  rw [iblk0_eq, iblk1_eq, iblk2_eq, iblk3_eq, iblk4_eq, iblk5_eq, iblk6_eq, V_tokens, V_indices, V_gates, V_main_arg2, V_main_arg3,
    V_main_arg4, V_main_arg5]
  simp only [ld_r0_1, ld_r0_2, ld_r0_3, ld_r0_4, ld_r0_5, ld_r0_6, ld_r0_7, ld_r0_8, ld_r0_9, ld_r0_10, ld_r0_11, ld_r0_12, ld_r0_13,
    ld_r0_14, ld_r0_15, ld_r0_16, ld_r0_17, ld_r0_18]
  rfl

/-- The run, read: the result array at the result, the arguments unchanged. -/
theorem run : θ_run defs (onTc (τ := τ) (main (F := F))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_eq m c), (h c).2⟩) (run_blocks m ρ)

end Cert.ReferenceIdeal.Value

end
-- ==== Proof.Quantise.lean ====
/-
  THE QUANTISER: the kernel's integer exponents and the reference's logarithms give the same scales and the same codes, for
  the tokens and for an expert's hidden values alike.
-/
module

public import proofs.«01_k».proof.Proof.Exponent
public import proofs.«01_k».proof.Proof.KernelValue
public import proofs.«01_k».proof.Proof.ReferenceValue

@[expose] public section

set_option maxRecDepth 16384

noncomputable section

namespace Experts

open Idealize.ShloMosaic Idealize.ShloMosaic.Pointwise
open Cert.ReferenceIdeal.Value (rowmaxX rowmaxH expo scale inverse codesX codesH hidden down output tokenCodes tokenScales)
open Cert.KernelIdeal (S16x2048 S16x1408 S16x1 S16x256 S1x2048x2816 S1x1x2816 S1x1408x2048 S1x1x2048 S1x2816 S1x2048 S16x4)
open Cert.KernelIdeal.Facts₀ Cert.KernelIdeal.Facts

/-! ## The kernel's scales of rows, from their greatest absolute values -/

/-- Which of the 256 powers of two are at most a row's greatest absolute value over 448. -/
def powersBelow (a : FVec Ideal S16x1 .f32) : IVec S16x256 1 :=
  cmpf .oge (broadcastTo S16x256 (mulf a (broadcast S16x1 (Scalar.ofBits .f32 0x3B124925#32))) broadcasts_S16x1_S16x256)
    (bitcastToFloat .f32 (shli (iota .tc S16x256 32 [1] iota_S16x256_d1_w32) (broadcast S16x256 23#32)))

/-- The kernel's scales. -/
def kscale (a : FVec Ideal S16x1 .f32) : FVec Ideal S16x1 .f32 := Cert.KernelIdeal.Gen.k0_pay28 a (powersBelow a)

/-- What the kernel multiplies a row by before rounding it. -/
def kinverse (a : FVec Ideal S16x1 .f32) : FVec Ideal S16x1 .f32 :=
  mulf (Cert.KernelIdeal.Gen.k0_pay27 (F := Ideal))
    (bitcastToFloat .f32 (shli (Cert.KernelIdeal.Gen.k0_pay29 a (powersBelow a)) Cert.KernelIdeal.Gen.k0_pay30))

/-- An index of a column is its row. -/
theorem column_index (j : S16x1.Idx) : ∃ r : Fin 16, j = ix2 r (0 : Fin 1) := by
  refine ⟨j 0, funext fun a => Fin.ext ?_⟩
  match a with
  | ⟨0, _⟩ => rfl
  | ⟨1, _⟩ => show (j 1).val = 0; have : (j 1).val < 1 := (j 1).isLt; omega

/-- The kernel's scale of a row is the power of two of its exponent. -/
theorem kscale_apply (a : FVec Ideal S16x1 .f32) (r : Fin 16) : kscale a (ix2 r (0 : Fin 1)) = kpow (kexp (a (ix2 r (0 : Fin 1)))) := by
  pointwise [kscale, powersBelow, Cert.KernelIdeal.Gen.k0_pay28, Cert.KernelIdeal.Gen.k0_pay27, Cert.KernelIdeal.Gen.k0_pay26, kpow, kexp, field]
  rfl

/-- What the kernel multiplies a row by is the power of two of its exponent, negated. -/
theorem kinverse_apply (a : FVec Ideal S16x1 .f32) (r : Fin 16) :
    kinverse a (ix2 r (0 : Fin 1)) = kpow (0#32 - kexp (a (ix2 r (0 : Fin 1)))) := by
  pointwise [kinverse, powersBelow, Cert.KernelIdeal.Gen.k0_pay29, Cert.KernelIdeal.Gen.k0_pay30, Cert.KernelIdeal.Gen.k0_pay27, Cert.KernelIdeal.Gen.k0_pay26, kpow, kexp, field]
  rfl

/-- The reference's scale of a row. -/
theorem scale_apply (a : FVec Ideal S16x1 .f32) (j : S16x1.Idx) : scale a j = rpow (rexp (a j)) := rfl

/-- What the reference multiplies a row by. -/
theorem inverse_apply (a : FVec Ideal S16x1 .f32) (j : S16x1.Idx) :
    inverse a j = rpow (Ideal.ofBits .f32 0x00000000#32 - rexp (a j)) := rfl

/-- The scales agree on magnitudes. -/
theorem kscale_eq (a : FVec Ideal S16x1 .f32) (h : ∀ j, 0 ≤ a j) : kscale a = scale a := by
  funext j
  obtain ⟨r, rfl⟩ := column_index j
  rw [kscale_apply, scale_apply]
  exact scale_eq _ (h _)

/-- The factors agree on magnitudes. -/
theorem kinverse_eq (a : FVec Ideal S16x1 .f32) (h : ∀ j, 0 ≤ a j) : kinverse a = inverse a := by
  funext j
  obtain ⟨r, rfl⟩ := column_index j
  rw [kinverse_apply, inverse_apply]
  exact inverse_eq _ (h _)

/-! ## The greatest absolute values are magnitudes -/

/-- An absolute value is a magnitude. -/
theorem abs_nonneg (x : EReal) : 0 ≤ max x (-x) := by
  rcases le_total 0 x with h | h
  · exact h.trans (le_max_left _ _)
  · exact (EReal.neg_nonneg.2 h).trans (le_max_right _ _)

/-- A greatest value over a nonempty row of magnitudes is a magnitude. -/
theorem fold_max_nonneg {n : Nat} (f : Fin (n + 1) → EReal) (b : EReal) (h : ∀ k, 0 ≤ f k) :
    0 ≤ (Finset.univ : Finset (Fin (n + 1))).fold max b f :=
  (Finset.le_fold_max 0).2 (.inr ⟨0, Finset.mem_univ _, h 0⟩)

/-- A token's greatest absolute value is a magnitude. -/
theorem rowmaxX_nonneg (v : FVec Ideal S16x2048 .f32) (j : S16x1.Idx) : 0 ≤ rowmaxX v j := by
  obtain ⟨r, rfl⟩ := column_index j
  simp only [pointwise, rowmaxX]
  exact fold_max_nonneg _ _ fun k => abs_nonneg _

/-- A row of hidden values' greatest absolute value is a magnitude. -/
theorem rowmaxH_nonneg (v : FVec Ideal S16x1408 .f32) (j : S16x1.Idx) : 0 ≤ rowmaxH v j := by
  obtain ⟨r, rfl⟩ := column_index j
  simp only [pointwise, rowmaxH]
  exact fold_max_nonneg _ _ fun k => abs_nonneg _

/-! ## The tokens -/

/-- The tokens widened, and cast to their own shape, on either side. -/
theorem widen_eq (x : Vec Ideal S16x2048 .bf16) : Cert.KernelIdeal.Gen.k0_pay3 x = Cert.ReferenceIdeal.Gen.k0_pay2 x := rfl

/-- The kernel's tokens' scales are the reference's. -/
theorem scales_eq (x : Vec Ideal S16x2048 .bf16) : Cert.KernelIdeal.Value.scales x = tokenScales x := by
  have h : Cert.KernelIdeal.Value.scales x = shapeCast S16x1 (kscale (rowmaxX (Cert.ReferenceIdeal.Gen.k0_pay2 x))) shapeCasts_S16x1_S16x1 := rfl
  rw [h, kscale_eq _ (rowmaxX_nonneg _)]
  funext j
  simp only [pointwise]
  rfl

/-- The kernel's tokens' codes are the reference's. -/
theorem codes_eq (x : Vec Ideal S16x2048 .bf16) : Cert.KernelIdeal.Value.codes x = tokenCodes x := by
  have h : Cert.KernelIdeal.Value.codes x
      = shapeCast S16x2048 (codesX (Cert.ReferenceIdeal.Gen.k0_pay2 x) (kinverse (rowmaxX (Cert.ReferenceIdeal.Gen.k0_pay2 x)))) shapeCasts_S16x2048_S16x2048 := rfl
  rw [h, kinverse_eq _ (rowmaxX_nonneg _)]
  funext j
  simp only [pointwise]
  rfl

/-! ## A step of the kernel -/

/-- What the kernel adds to its accumulator at one point: an expert's output times the gate, where the gate is not
    negative. -/
def kadd (o : FVec Ideal S16x2048 .f32) (g : FVec Ideal S16x1 .f32) (acc : FVec Ideal S16x2048 .f32) : FVec Ideal S16x2048 .f32 :=
  addf acc (select (broadcastTo S16x2048 (shapeCast S16x1 (cmpf .oge g (broadcast S16x1 (Scalar.ofBits .f32 0x00000000#32)))
      shapeCasts_S16x1_S16x1) broadcasts_S16x1_S16x2048)
    (mulf o (broadcastTo S16x2048 g broadcasts_S16x1_S16x2048)) (broadcast S16x2048 (Scalar.ofBits .f32 0x00000000#32)))

/-- A step adds the reference's output of the point's expert. -/
theorem step_output (i : Cert.KernelIdeal.grid0.Coords) (x2 : Vec Ideal S1x2048x2816 .fp8e4m3) (x3 : Vec Ideal S1x1x2816 .f32)
    (x4 : Vec Ideal S1x1408x2048 .fp8e4m3) (x5 : Vec Ideal S1x1x2048 .f32) (xs0 : Vec Ideal S16x2048 .fp8e4m3) (xs1 : Vec Ideal S16x1 .f32)
    (xs2 : Vec Ideal S16x4 .f32) (xs3 : Vec Ideal S16x2048 .f32) :
    Cert.KernelIdeal.Value.step i x2 x3 x4 x5 xs0 xs1 xs2 xs3
      = kadd (output xs0 xs1 x2 (shapeCast S1x2816 x3 shapeCasts_S1x1x2816_S1x2816) x4 (shapeCast S1x2048 x5 shapeCasts_S1x1x2048_S1x2048))
          (Cert.KernelIdeal.Gen.k0_pay22 i xs2) xs3 := by
  have h : Cert.KernelIdeal.Value.step i x2 x3 x4 x5 xs0 xs1 xs2 xs3
      = shapeCast S16x2048 (kadd (down (codesH (hidden xs0 xs1 x2 (shapeCast S1x2816 x3 shapeCasts_S1x1x2816_S1x2816))
            (kinverse (rowmaxH (hidden xs0 xs1 x2 (shapeCast S1x2816 x3 shapeCasts_S1x1x2816_S1x2816)))))
            (kscale (rowmaxH (hidden xs0 xs1 x2 (shapeCast S1x2816 x3 shapeCasts_S1x1x2816_S1x2816)))) x4
            (shapeCast S1x2048 x5 shapeCasts_S1x1x2048_S1x2048))
          (Cert.KernelIdeal.Gen.k0_pay22 i xs2) xs3) shapeCasts_S16x2048_S16x2048 := rfl
  rw [h, kinverse_eq _ (rowmaxH_nonneg _), kscale_eq _ (rowmaxH_nonneg _)]
  funext j
  simp only [pointwise]
  rfl

end Experts

end
-- ==== Proof.Route.lean ====
/-
  ROUTING, on one token's four logits: the kernel takes the greatest logit, the smallest index that reaches it, masks
  it out and does so again, and weighs the two by one exponential; the reference sorts the four stably, greater first,
  and takes the softmax of the first two. Both choose the same two experts, and at finite logits both weigh them alike.
-/
module

public import Idealize.ShloMosaic.Lib.Pointwise
public import Idealize.ShloMosaic.Lib.SortFacts
public import proofs.«01_k».proof.Proof.Exponent

@[expose] public section

set_option maxRecDepth 16384

noncomputable section

namespace Experts

open Idealize Idealize.ShloMosaic

/-! ## The reference's choice: a stable sort -/

/-- The sort's order on positions: the greater logit before. -/
def before (f : Fin 4 → EReal) (k k' : Fin 4) : Bool := Ideal.cmp .ogt (f k) (f k') == 1#1

/-- The position the sort puts at place `i`. -/
def place (f : Fin 4 → EReal) (i : Fin 4) : Fin 4 := sortedFrom (before f) i

/-- The same order with ties broken by position. -/
def beforeTie (f : Fin 4 → EReal) (k k' : Fin 4) : Bool := decide (f k' < f k ∨ (f k = f k' ∧ k < k'))

theorem before_eq (f : Fin 4 → EReal) (k k' : Fin 4) : before f k k' = decide (f k' < f k) := by
  unfold before Ideal.cmp
  by_cases h : f k' < f k <;> simp [h]

/-- A stable sort of a list in increasing order asks its order only of a later element before an earlier one. -/
theorem stableSort_congr_lt (R R' : Fin 4 → Fin 4 → Bool) (l : List (Fin 4)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem place_eq (f : Fin 4 → EReal) : place f = sortedFrom (beforeTie f) := by
  have hp : sortPositions 4 (before f) = sortPositions 4 (beforeTie f) := by
    unfold sortPositions
    refine stableSort_congr_lt _ _ _ (by decide) fun a b hab => ?_
    rw [before_eq]
    unfold beforeTie
    have : ¬ b < a := not_lt.mpr hab.le
    simp [this]
  funext k
  show sortedFrom (before f) k = _
  unfold sortedFrom
  rw [List.get_of_eq hp]
  rfl

/-- Of two places the earlier holds the greater logit, or an equal one at the smaller position. -/
theorem place_sorted (f : Fin 4 → EReal) (i j : Fin 4) (hij : i < j) :
    f (place f j) ≤ f (place f i) ∧ (f (place f j) = f (place f i) → place f i < place f j) := by
  have h := sortedFrom_noInversion (beforeTie f) (beforeTie f) ?_ (fun _ _ h => h) ?_ i j hij
  · have hne : sortedFrom (beforeTie f) i ≠ sortedFrom (beforeTie f) j :=
      fun e => absurd (sortedFrom_injective _ e) (ne_of_lt hij)
    rw [place_eq]
    unfold beforeTie at h
    simp only [decide_eq_false_iff_not, not_or, not_lt, not_and] at h
    exact ⟨h.1, fun e => lt_of_le_of_ne (h.2 e) hne⟩
  · intro a b hab
    unfold beforeTie at *
    simp only [decide_eq_true_eq, decide_eq_false_iff_not, not_or, not_lt, not_and] at *
    rcases hab with h | ⟨h, h'⟩
    · exact ⟨h.le, fun e => absurd h (by rw [e]; exact lt_irrefl _)⟩
    · exact ⟨h.symm.le, fun _ => h'.le⟩
  · intro a b c hab hbc
    unfold beforeTie at *
    simp only [decide_eq_false_iff_not, not_or, not_lt, not_and] at *
    refine ⟨hab.1.trans hbc.1, fun e => ?_⟩
    have e1 : f a = f b := le_antisymm hab.1 (by rw [e]; exact hbc.1)
    exact (hbc.2 (by rw [← e1, e])).trans (hab.2 e1)

theorem place_inj (f : Fin 4 → EReal) : Function.Injective (place f) := sortedFrom_injective _

/-- The first place holds the greatest logit, at the smallest position that reaches it. -/
theorem first_spec (f : Fin 4 → EReal) (k : Fin 4) :
    f k ≤ f (place f 0) ∧ (f k = f (place f 0) → place f 0 ≤ k) := by
  obtain ⟨j, rfl⟩ := sortedFrom_surjective (before f) k
  change f (place f j) ≤ _ ∧ (f (place f j) = _ → _ ≤ place f j)
  rcases Nat.eq_zero_or_pos j.val with h | h
  · have : j = 0 := Fin.ext h
    subst this; exact ⟨le_refl _, fun _ => le_refl _⟩
  · have hs := place_sorted f 0 j h
    exact ⟨hs.1, fun e => (hs.2 e).le⟩

/-- The second place holds the greatest of the others, at the smallest position that reaches it. -/
theorem second_spec (f : Fin 4 → EReal) (k : Fin 4) (hk : k ≠ place f 0) :
    f k ≤ f (place f 1) ∧ (f k = f (place f 1) → place f 1 ≤ k) := by
  obtain ⟨j, rfl⟩ := sortedFrom_surjective (before f) k
  change f (place f j) ≤ _ ∧ (f (place f j) = _ → _ ≤ place f j)
  change place f j ≠ _ at hk
  have h0 : j ≠ 0 := fun e => hk (by rw [e])
  by_cases h1 : j = 1
  · subst h1; exact ⟨le_refl _, fun _ => le_refl _⟩
  · have hs := place_sorted f 1 j (by
      have := Fin.val_ne_of_ne h0; have := Fin.val_ne_of_ne h1
      show (1 : ℕ) < j.val; simp at *; omega)
    exact ⟨hs.1, fun e => (hs.2 e).le⟩

theorem second_ne (f : Fin 4 → EReal) : place f 1 ≠ place f 0 :=
  fun e => absurd (place_inj f e) (by decide)

/-! ## The kernel's choice: two passes of a maximum and a least index -/

/-- The greatest of the four. -/
def top (f : Fin 4 → EReal) : EReal := (Finset.univ : Finset (Fin 4)).fold max ⊥ f

/-- The least index whose bit is set, 4 where none is. -/
def least (p : Fin 4 → BitVec 1) : BitVec 32 :=
  (Finset.univ : Finset (Fin 4)).fold IntOp.minsi 2147483647#32 fun k => Scalar.select (p k) (BitVec.ofNat 32 k.val) 4#32

/-- The kernel's first expert. -/
def kfirst (f : Fin 4 → EReal) : BitVec 32 := least fun k => Ideal.cmp .oeq (f k) (top f)

/-- The logits with the first expert's masked out. -/
def rest (f : Fin 4 → EReal) (k : Fin 4) : EReal :=
  Scalar.select (IntOp.cmpi .eq (BitVec.ofNat 32 k.val) (kfirst f)) ⊥ (f k)

/-- The kernel's second expert. -/
def ksecond (f : Fin 4 → EReal) : BitVec 32 :=
  least fun k => IntOp.andi (Ideal.cmp .oeq (rest f k) (top (rest f))) (IntOp.cmpi .ne (BitVec.ofNat 32 k.val) (kfirst f))

theorem top_eq_of (f : Fin 4 → EReal) (k : Fin 4) (h : ∀ k', f k' ≤ f k) : top f = f k := by
  unfold top
  refine le_antisymm ?_ ?_
  · rw [Finset.fold_max_le]; exact ⟨bot_le, fun x _ => h x⟩
  · rw [Finset.le_fold_max]; exact Or.inr ⟨k, Finset.mem_univ _, le_refl _⟩

theorem least_table : ∀ (b0 b1 b2 b3 : Bool) (k : Fin 4),
    (![b0, b1, b2, b3] k = true ∧ ∀ k', ![b0, b1, b2, b3] k' = true → k ≤ k') →
    least (fun k => BitVec.ofBool (![b0, b1, b2, b3] k)) = BitVec.ofNat 32 k.val := by
  decide +kernel

theorem least_eq_of (p : Fin 4 → BitVec 1) (k : Fin 4) (hk : p k = 1#1) (h : ∀ k', p k' = 1#1 → k ≤ k') :
    least p = BitVec.ofNat 32 k.val := by
  have hp : p = fun k => BitVec.ofBool (![p 0 == 1#1, p 1 == 1#1, p 2 == 1#1, p 3 == 1#1] k) := by
    have hb : ∀ b : BitVec 1, b = BitVec.ofBool (b == 1#1) := by decide
    funext k
    fin_cases k <;> exact hb _
  have hq : ∀ k, ![p 0 == 1#1, p 1 == 1#1, p 2 == 1#1, p 3 == 1#1] k = (p k == 1#1) := by
    intro k; fin_cases k <;> rfl
  rw [hp]
  refine least_table _ _ _ _ k ⟨by rw [hq, hk]; rfl, fun k' hk' => h k' ?_⟩
  rw [hq] at hk'
  exact eq_of_beq hk'

theorem cmpi_eq_small : ∀ k k' : Fin 4,
    IntOp.cmpi .eq (BitVec.ofNat 32 k.val) (BitVec.ofNat 32 k'.val) = BitVec.ofBool (decide (k = k')) := by decide
theorem cmpi_ne_small : ∀ k k' : Fin 4,
    IntOp.cmpi .ne (BitVec.ofNat 32 k.val) (BitVec.ofNat 32 k'.val) = BitVec.ofBool (decide (k ≠ k')) := by decide

theorem top_eq (f : Fin 4 → EReal) : top f = f (place f 0) := top_eq_of f _ fun k => (first_spec f k).1

/-- The kernel's first expert is the sort's first place. -/
theorem kfirst_eq (f : Fin 4 → EReal) : kfirst f = BitVec.ofNat 32 (place f 0).val := by
  unfold kfirst
  rw [top_eq]
  refine least_eq_of _ _ ?_ fun k hk => ?_
  · simp [Ideal.cmp]
  · refine (first_spec f k).2 ?_
    by_contra hne
    simp [Ideal.cmp, hne] at hk

theorem rest_eq (f : Fin 4 → EReal) (k : Fin 4) : rest f k = if k = place f 0 then ⊥ else f k := by
  unfold rest
  rw [kfirst_eq, cmpi_eq_small]
  by_cases h : k = place f 0 <;> simp [h, Scalar.select]

/-- The second greatest logit is the sort's second place's. -/
theorem top_rest_eq (f : Fin 4 → EReal) : top (rest f) = f (place f 1) := by
  rw [top_eq_of (rest f) (place f 1), rest_eq, if_neg (second_ne f)]
  intro k
  rw [rest_eq, rest_eq, if_neg (second_ne f)]
  by_cases h : k = place f 0
  · rw [if_pos h]; exact bot_le
  · rw [if_neg h]; exact (second_spec f k h).1

/-- The kernel's second expert is the sort's second place. -/
theorem ksecond_eq (f : Fin 4 → EReal) : ksecond f = BitVec.ofNat 32 (place f 1).val := by
  unfold ksecond
  rw [top_rest_eq, kfirst_eq]
  refine least_eq_of _ _ ?_ fun k hk => ?_
  · rw [cmpi_ne_small, rest_eq, if_neg (second_ne f)]
    simp [Ideal.cmp, second_ne f, IntOp.andi]
  · rw [cmpi_ne_small, rest_eq] at hk
    by_cases h : k = place f 0
    · exfalso
      rw [if_pos h] at hk
      simp [h, IntOp.andi] at hk
    · rw [if_neg h] at hk
      refine (second_spec f k h).2 ?_
      by_contra hne
      simp [Ideal.cmp, hne, IntOp.andi] at hk

/-! ## The weights -/

/-- The kernel's one exponential. -/
def kp2 (f : Fin 4 → EReal) : EReal := Ideal.exp (top (rest f) - top f)

/-- The kernel's gate of expert `k`: its weight where it is chosen, -1 where it is not. -/
def kgate (f : Fin 4 → EReal) (k : Fin 4) : EReal :=
  Scalar.select
    (IntOp.ori (IntOp.cmpi .eq (BitVec.ofNat 32 k.val) (kfirst f)) (IntOp.cmpi .eq (BitVec.ofNat 32 k.val) (ksecond f)))
    (Scalar.select (IntOp.cmpi .eq (BitVec.ofNat 32 k.val) (kfirst f))
      (Ideal.div (Ideal.ofBits .f32 0x3F800000#32) (Ideal.ofBits .f32 0x3F800000#32 + kp2 f))
      (Scalar.select (IntOp.cmpi .eq (BitVec.ofNat 32 k.val) (ksecond f))
        (Ideal.div (kp2 f) (Ideal.ofBits .f32 0x3F800000#32 + kp2 f)) (Ideal.ofBits .f32 0x00000000#32)))
    (Ideal.ofBits .f32 0xBF800000#32)

/-- The reference's two logits, greater first. -/
def chosen (f : Fin 4 → EReal) (k : Fin 2) : EReal := f (place f ⟨k.val, by omega⟩)

/-- The reference's shift of the softmax: the greater of the two. -/
def rshift (f : Fin 4 → EReal) : EReal :=
  max (Ideal.ofBits .f32 0xFF800000#32)
    ((Finset.univ : Finset (Fin 2)).fold max (Ideal.ofBits .f32 0xFF800000#32) (chosen f))

/-- The reference's weight of its `k`-th choice: the softmax of the two logits. -/
def rgate (f : Fin 4 → EReal) (k : Fin 2) : EReal :=
  Ideal.div (Ideal.exp (chosen f k - rshift f))
    (Ideal.ofBits .f32 0x00000000#32 + ∑ k' : Fin 2, Ideal.exp (chosen f k' - rshift f))

theorem f32_neg_one : Ideal.ofBits .f32 0xBF800000#32 = ((-1 : ℝ) : EReal) := by
  simp [Ideal.ofBits, Ideal.ieee, -EReal.coe_mul, -EReal.coe_neg]; norm_num

theorem rshift_eq (f : Fin 4 → EReal) : rshift f = f (place f 0) := by
  unfold rshift
  rw [f32_bot, max_eq_right bot_le]
  refine le_antisymm ?_ ?_
  · rw [Finset.fold_max_le]
    refine ⟨bot_le, fun k _ => (first_spec f _).1⟩
  · rw [Finset.le_fold_max]; exact Or.inr ⟨0, Finset.mem_univ _, le_refl _⟩

/-- At finite logits the two weights are positive multiples of one positive real, and both programs take them. -/
theorem weights (f : Fin 4 → EReal) (hf : ∀ k, ∃ r : ℝ, f k = (r : EReal)) :
    ∃ g0 g1 : ℝ, 0 ≤ g0 ∧ 0 ≤ g1 ∧ rgate f 0 = (g0 : EReal) ∧ rgate f 1 = (g1 : EReal)
      ∧ Ideal.div (Ideal.ofBits .f32 0x3F800000#32) (Ideal.ofBits .f32 0x3F800000#32 + kp2 f) = (g0 : EReal)
      ∧ Ideal.div (kp2 f) (Ideal.ofBits .f32 0x3F800000#32 + kp2 f) = (g1 : EReal) := by
  obtain ⟨a, ha⟩ := hf (place f 0)
  obtain ⟨b, hb⟩ := hf (place f 1)
  have hc0 : chosen f 0 = (a : EReal) := ha
  have hc1 : chosen f 1 = (b : EReal) := hb
  have hdiv : ∀ x y : ℝ, 0 < y → Ideal.div (x : EReal) (y : EReal) = ((x / y : ℝ) : EReal) := fun x y hy => by
    unfold Ideal.div
    rw [if_neg (by exact_mod_cast hy.ne'), ← EReal.coe_inv, ← EReal.coe_mul, div_eq_mul_inv]
  have hexp : ∀ x : ℝ, Ideal.exp (x : EReal) = ((Real.exp x : ℝ) : EReal) := fun x => rfl
  have hp : kp2 f = ((Real.exp (b - a) : ℝ) : EReal) := by
    unfold kp2
    rw [top_rest_eq, top_eq, ha, hb, ← EReal.coe_sub, hexp]
  have hden : (1 : EReal) + ((Real.exp (b - a) : ℝ) : EReal) = ((1 + Real.exp (b - a) : ℝ) : EReal) := by
    push_cast; rfl
  have hpos : 0 < 1 + Real.exp (b - a) := by positivity
  have hr : ∀ k, rgate f k = Ideal.div (Ideal.exp (chosen f k - (a : EReal))) ((1 + Real.exp (b - a) : ℝ) : EReal) := by
    intro k
    unfold rgate
    rw [rshift_eq, ha, f32_zero, zero_add, Fin.sum_univ_two, hc0, hc1, ← EReal.coe_sub, ← EReal.coe_sub, hexp, hexp,
      sub_self, Real.exp_zero, ← hden]
    rfl
  refine ⟨1 / (1 + Real.exp (b - a)), Real.exp (b - a) / (1 + Real.exp (b - a)), by positivity, by positivity, ?_, ?_, ?_, ?_⟩
  · rw [hr, hc0, ← EReal.coe_sub, hexp, sub_self, Real.exp_zero, hdiv _ _ hpos]
  · rw [hr, hc1, ← EReal.coe_sub, hexp, hdiv _ _ hpos]
  · rw [hp, f32_one, hden, ← hdiv _ _ hpos]; rfl
  · rw [hp, f32_one, hden, hdiv _ _ hpos]

/-- The kernel's gate by the reference's places and weights. -/
theorem kgate_eq (f : Fin 4 → EReal) (hf : ∀ k, ∃ r : ℝ, f k = (r : EReal)) (k : Fin 4) :
    kgate f k = if k = place f 0 then rgate f 0 else if k = place f 1 then rgate f 1 else ((-1 : ℝ) : EReal) := by
  obtain ⟨g0, g1, -, -, h0, h1, h2, h3⟩ := weights f hf
  unfold kgate
  rw [h2, h3, h0, h1, kfirst_eq, ksecond_eq, cmpi_eq_small, cmpi_eq_small, f32_neg_one]
  by_cases e0 : k = place f 0
  · simp [e0, (second_ne f).symm, Scalar.select, IntOp.ori]
  by_cases e1 : k = place f 1
  · simp [e1, second_ne f, Scalar.select, IntOp.ori]
  · simp [e0, e1, Scalar.select, IntOp.ori]

/-- One expert's step of the sum: what the kernel adds where its gate is not negative, the reference adds in two terms,
    one for each of its choices. -/
theorem step_eq (f : Fin 4 → EReal) (hf : ∀ k, ∃ r : ℝ, f k = (r : EReal)) (e : Fin 4) (y o : EReal) :
    y + Scalar.select (Ideal.cmp .oge (kgate f e) (Ideal.ofBits .f32 0x00000000#32)) (o * kgate f e)
        (Ideal.ofBits .f32 0x00000000#32)
      = y + Scalar.select (IntOp.cmpi .eq (BitVec.ofNat 32 (place f 0).val) (BitVec.ofNat 32 e.val)) (o * rgate f 0)
          (Ideal.ofBits .f32 0x00000000#32)
        + Scalar.select (IntOp.cmpi .eq (BitVec.ofNat 32 (place f 1).val) (BitVec.ofNat 32 e.val)) (o * rgate f 1)
          (Ideal.ofBits .f32 0x00000000#32) := by
  obtain ⟨g0, g1, p0, p1, h0, h1, -, -⟩ := weights f hf
  rw [kgate_eq f hf, cmpi_eq_small, cmpi_eq_small, f32_zero]
  have q0 : (0 : EReal) ≤ rgate f 0 := by rw [h0]; exact_mod_cast p0
  have q1 : (0 : EReal) ≤ rgate f 1 := by rw [h1]; exact_mod_cast p1
  have hn : ¬ (0 : EReal) ≤ ((-1 : ℝ) : EReal) := by
    rw [← EReal.coe_zero, EReal.coe_le_coe_iff]; norm_num
  by_cases e0 : e = place f 0
  · subst e0
    simp [q0, second_ne f, Ideal.cmp, Scalar.select]
  by_cases e1 : e = place f 1
  · have e0' : ¬ place f 0 = e := fun h => e0 h.symm
    rw [if_neg e0, if_pos e1]
    simp [q1, e0', e1.symm, Ideal.cmp, Scalar.select]
  · have e0' : ¬ place f 0 = e := fun h => e0 h.symm
    have e1' : ¬ place f 1 = e := fun h => e1 h.symm
    rw [if_neg e0, if_neg e1]
    simp only [Ideal.cmp, hn, e0', e1', decide_false, Scalar.select_ofBool, if_false, add_zero, Bool.false_eq_true]

/-- The gate of expert `e` picked from the row by a masked sum. -/
theorem pick_eq (g : Fin 4 → EReal) (e : Fin 4) :
    ∑ k : Fin 4, Scalar.select (IntOp.cmpi .eq (BitVec.ofNat 32 k.val) (BitVec.ofNat 32 e.val)) (g k)
        (Ideal.ofBits .f32 0x00000000#32) = g e := by
  simp only [cmpi_eq_small, f32_zero, Scalar.select_ofBool, decide_eq_true_eq]
  rw [Finset.sum_ite_eq']
  simp

end Experts

end
-- ==== Proof.Gates.lean ====
/-
  THE ROUTER, read at a token: the kernel's gates and the reference's choices and gates are the two routings of the token's
  four logits (module Route).
-/
module

public import proofs.«01_k».proof.Proof.Route
public import proofs.«01_k».proof.Proof.KernelValue
public import proofs.«01_k».proof.Proof.ReferenceValue
public import Idealize.ShloMosaic.Lib.KernelVsHost
public import Idealize.ShloMosaic.Lib.IdealHost

@[expose] public section

set_option maxRecDepth 16384

noncomputable section

namespace Experts

open Idealize.ShloMosaic Idealize.ShloMosaic.Pointwise
open Cert.ReferenceIdeal.Value (flat logits topValues topIndices softmax expShifted)
open Cert.KernelIdeal (S16x1x2048 S16x2048 S16x1 S2048x4 S16x4 grid0)
open Cert.ReferenceIdeal (S16x2)
open Cert.KernelIdeal.Facts₀ Cert.KernelIdeal.Facts

/-- A token's row of logits. -/
def row (l : FVec Ideal S16x4 .f32) (r : Fin 16) (k : Fin 4) : EReal := l (ix2 r k)

/-! ## The kernel's gates -/

section Kernel

variable (x : Vec Ideal S16x2048 .bf16) (w : Vec Ideal S2048x4 .f32)

open Cert.KernelIdeal.Gen (k0_pay4 k0_pay5 k0_pay6 k0_pay7 k0_pay8 k0_pay9 k0_pay10 k0_pay11 k0_pay12 k0_pay13 k0_pay14 k0_pay15 k0_pay22)

theorem pay5_apply (r : Fin 16) : k0_pay5 x w (ix2 r (0 : Fin 1)) = top (row (k0_pay4 x w) r) := by
  pointwise [k0_pay5, f32_bot, top, row]

theorem pay6_apply (r : Fin 16) : k0_pay6 x w (ix2 r (0 : Fin 1)) = kfirst (row (k0_pay4 x w) r) := by
  pointwise [k0_pay6, pay5_apply, kfirst, least, row]

theorem pay7_apply (r : Fin 16) (k : Fin 4) : k0_pay7 x w (ix2 r k) = rest (row (k0_pay4 x w) r) k := by
  pointwise [k0_pay7, pay6_apply, f32_bot, rest, row]

theorem pay8_apply (r : Fin 16) : k0_pay8 x w (ix2 r (0 : Fin 1)) = top (rest (row (k0_pay4 x w) r)) := by
  pointwise [k0_pay8, pay7_apply, f32_bot, top]

theorem pay9_apply (r : Fin 16) : k0_pay9 x w (ix2 r (0 : Fin 1)) = ksecond (row (k0_pay4 x w) r) := by
  pointwise [k0_pay9, pay8_apply, pay7_apply, pay6_apply, ksecond, least]

theorem pay10_apply (r : Fin 16) : k0_pay10 x w (ix2 r (0 : Fin 1)) = kp2 (row (k0_pay4 x w) r) := by
  pointwise [k0_pay10, pay8_apply, pay5_apply, kp2]

/-- The kernel's gate of expert `k` at token `r`. -/
theorem gates_apply (r : Fin 16) (k : Fin 4) : Cert.KernelIdeal.Value.gates x w (ix2 r k) = kgate (row (k0_pay4 x w) r) k := by
  pointwise [Cert.KernelIdeal.Value.gates, k0_pay15, k0_pay14, k0_pay13, k0_pay12, k0_pay11, pay10_apply, pay9_apply, pay6_apply, kgate]

end Kernel

/-- The gate the kernel picks at a point: the gate of the point's expert. -/
theorem picked_apply (i : grid0.Coords) (g : FVec Ideal S16x4 .f32) (e : Fin 4) (h : (i 0).val = e.val) (r : Fin 16) :
    Cert.KernelIdeal.Gen.k0_pay22 i g (ix2 r (0 : Fin 1)) = g (ix2 r e) := by
  rw [← pick_eq (fun k => g (ix2 r k)) e]
  pointwise [Cert.KernelIdeal.Gen.k0_pay22, h]

/-! ## The reference's choices and gates -/

/-- Moving an index of the logits along its row. -/
theorem along_row (r : Fin 16) (k k' : Fin 4) :
    (Shape.Idx.along (s := S16x4) (ix2 r k) (1 : Fin 2) k') = ix2 r k' := by
  refine funext fun a => ?_
  match a with
  | ⟨0, _⟩ => rfl
  | ⟨1, _⟩ => rfl

/-- Where the sort of a token's logits takes its `k`-th element from. -/
theorem sorted_place (l : FVec Ideal S16x4 .f32) (r : Fin 16) (k : Fin 4) :
    sortedFrom (n := 4) (fun a b => FloatOps.cmpfTotal (F := Ideal) (φ := .f32) .gt (l (Shape.Idx.along (s := S16x4) (ix2 r k) (1 : Fin 2) a))
      (l (Shape.Idx.along (s := S16x4) (ix2 r k) (1 : Fin 2) b)) == 1#1) k = place (row l r) k := by
  refine congrArg (fun R => sortedFrom (n := 4) R k) (funext fun a => funext fun b => ?_)
  exact congrArg₂ (fun u v => Ideal.cmp .ogt u v == 1#1) (congrArg l (along_row r k a)) (congrArg l (along_row r k b))

/-- The sort of the logits read at a token. -/
theorem sort_fst (l : FVec Ideal S16x4 .f32) (y : IVec S16x4 32) (r : Fin 16) (k : Fin 4) :
    (Host.sort2 S16x4 1 (fun a b => FloatOps.cmpfTotal (F := Ideal) (φ := .f32) .gt a.1 b.1) l y).1 (ix2 r k)
        = l (ix2 r (place (row l r) k)) :=
  congrArg l ((congrArg (Shape.Idx.along (s := S16x4) (ix2 r k) (1 : Fin 2)) (sorted_place l r k)).trans (along_row r k _))

/-- What the sort of the logits carries along, read at a token. -/
theorem sort_snd (l : FVec Ideal S16x4 .f32) (y : IVec S16x4 32) (r : Fin 16) (k : Fin 4) :
    (Host.sort2 S16x4 1 (fun a b => FloatOps.cmpfTotal (F := Ideal) (φ := .f32) .gt a.1 b.1) l y).2 (ix2 r k)
        = y (ix2 r (place (row l r) k)) :=
  congrArg y ((congrArg (Shape.Idx.along (s := S16x4) (ix2 r k) (1 : Fin 2)) (sorted_place l r k)).trans (along_row r k _))

/-- The first two columns of an array of four. -/
theorem first_two {α : Type} (v : S16x4.Idx → α) (r : Fin 16) (k : Fin 2) :
    extractStridedSlice S16x2 (fun _ => 0) v Cert.ReferenceIdeal.Gen.sliceFits_S16x4_S16x2 (ix2 r k) = v (ix2 r ⟨k.val, by omega⟩) := by
  refine congrArg v (funext fun a => Fin.ext ?_)
  match a with
  | ⟨0, _⟩ => exact Nat.zero_add _
  | ⟨1, _⟩ => exact Nat.zero_add _

/-- The reference's `k`-th greatest logit at token `r`. -/
theorem topValues_apply (l : FVec Ideal S16x4 .f32) (r : Fin 16) (k : Fin 2) :
    topValues l (ix2 r k) = chosen (row l r) k :=
  (first_two _ r k).trans (sort_fst l (iotaInDim S16x4 32 (1 : Fin 2)) r _)

/-- The reference's `k`-th choice at token `r`. -/
theorem topIndices_apply (l : FVec Ideal S16x4 .f32) (r : Fin 16) (k : Fin 2) :
    topIndices (F := Ideal) l (ix2 r k) = BitVec.ofNat 32 (place (row l r) ⟨k.val, by omega⟩).val :=
  (first_two _ r k).trans (sort_snd l (iotaInDim S16x4 32 (1 : Fin 2)) r _)

/-- The reference's `k`-th gate at token `r`. -/
theorem softmax_apply (l : FVec Ideal S16x4 .f32) (r : Fin 16) (k : Fin 2) :
    softmax (topValues l) (ix2 r k) = rgate (row l r) k := by
  have h (k : Fin 2) : expShifted (topValues l) (ix2 r k) = Ideal.exp (chosen (row l r) k - rshift (row l r)) := by
    unfold expShifted
    rw [hostReduce_maximumf_eq_multiReduction (topValues l) (0xFF800000#32 : BitVec FTy.f32.bits) Cert.ReferenceIdeal.Gen.reducesTo_S16x2_S16_d1
      Cert.ReferenceIdeal.Gen.h_S_ (by decide) (.inl rfl) rfl]
    pointwise [topValues_apply, rshift]
  unfold softmax
  pointwise [h, rgate]

/-! ## The logits -/

/-- The kernel's logits are the reference's. -/
theorem logits_eq (x : Vec Ideal S16x1x2048 .bf16) (w : Vec Ideal S2048x4 .f32) :
    Cert.KernelIdeal.Gen.k0_pay4 (flat x) w = logits x w := by
  funext j
  pointwise [Cert.KernelIdeal.Gen.k0_pay4, Cert.KernelIdeal.Gen.k0_pay3, logits]

/-- A sum of reals is a real. -/
theorem sum_real {n : Nat} (f : Fin n → EReal) (h : ∀ k, ∃ r : ℝ, f k = (r : EReal)) : ∃ r : ℝ, ∑ k, f k = (r : EReal) := by
  refine Finset.sum_induction f (fun x => ∃ r : ℝ, x = (r : EReal)) ?_ ⟨0, EReal.coe_zero.symm⟩ fun k _ => h k
  rintro _ _ ⟨a, rfl⟩ ⟨b, rfl⟩
  exact ⟨a + b, (EReal.coe_add a b).symm⟩

/-- Finite tokens and router weights have finite logits. -/
theorem logits_real (x : Vec Ideal S16x1x2048 .bf16) (w : Vec Ideal S2048x4 .f32) (hx : ∀ j, ∃ r : ℝ, x j = (r : EReal))
    (hw : ∀ j, ∃ r : ℝ, w j = (r : EReal)) (r : Fin 16) (k : Fin 4) : ∃ v : ℝ, row (logits x w) r k = (v : EReal) := by
  have e : row (logits x w) r k = ∑ d : Fin 2048, flat x (ix2 r d) * w (ix2 d k) := by
    pointwise [row, logits]
  rw [e]
  refine sum_real _ fun d => ?_
  obtain ⟨a, ha⟩ := hx _
  obtain ⟨b, hb⟩ := hw (ix2 d k)
  exact ⟨a * b, by rw [hb, EReal.coe_mul, ← ha]; rfl⟩

end Experts

end
-- ==== Proof.Equation.lean ====
/-
  THE EQUATION: on finite tokens and router weights the kernel's result is the reference's. Each of the kernel's four steps
  adds one expert's output times one gate; the reference adds the same expert's output once per choice.
-/
module

public import proofs.«01_k».proof.Proof.Quantise
public import proofs.«01_k».proof.Proof.Gates
public import proofs.«01_k».proof.Proof.Gen.Pre_finite
public import Idealize.ShloMosaic.Lib.ReduceAll

@[expose] public section

set_option maxRecDepth 16384

noncomputable section

namespace Experts

open Idealize.ShloMosaic Idealize.ShloMosaic.Pointwise
open Cert.ReferenceIdeal.Value (flat logits topValues topIndices softmax output tokenCodes tokenScales expert addChosen addExpert addTerm total)
open Cert.KernelIdeal (S16x1x2048 S16x2048 S16x1 S2048x4 S16x4 S4x2048x2816 S4x2816 S4x1408x2048 S4x2048 S1x1x2816 S1x2816 S1x1x2048 S1x2048 grid0 cfg0 nD τ sig)
open Cert.KernelIdeal.Gen (iblk t0_0 t0_1 t0_2 t0_3)
open Cert.KernelIdeal.Facts₀ Cert.KernelIdeal.Facts

/-! ## One step, element by element -/

/-- An index of a token's values is its row and its column. -/
theorem value_index (j : S16x2048.Idx) : ∃ (r : Fin 16) (d : Fin 2048), j = ix2 r d := by
  refine ⟨j 0, j 1, funext fun a => Fin.ext ?_⟩
  match a with
  | ⟨0, _⟩ => rfl
  | ⟨1, _⟩ => rfl

/-- What the kernel's step adds, at an element. -/
theorem kadd_apply (o : FVec Ideal S16x2048 .f32) (g : FVec Ideal S16x1 .f32) (acc : FVec Ideal S16x2048 .f32) (r : Fin 16) (d : Fin 2048) :
    kadd o g acc (ix2 r d) = acc (ix2 r d)
      + Scalar.select (Ideal.cmp .oge (g (ix2 r (0 : Fin 1))) (Ideal.ofBits .f32 0x00000000#32)) (o (ix2 r d) * g (ix2 r (0 : Fin 1)))
          (Ideal.ofBits .f32 0x00000000#32) := by
  pointwise [kadd]

/-- What the reference adds for one expert, at an element. -/
theorem addChosen_apply (e : BitVec 32) (y o : FVec Ideal S16x2048 .f32) (i : Vec Ideal Cert.ReferenceIdeal.S16x2 .i32)
    (g : Vec Ideal Cert.ReferenceIdeal.S16x2 .f32) (r : Fin 16) (d : Fin 2048) :
    addChosen e y o i g (ix2 r d) = y (ix2 r d)
      + Scalar.select (IntOp.cmpi .eq (i (ix2 r (0 : Fin 2))) e) (o (ix2 r d) * g (ix2 r (0 : Fin 2))) (Ideal.ofBits .f32 0x00000000#32)
      + Scalar.select (IntOp.cmpi .eq (i (ix2 r (1 : Fin 2))) e) (o (ix2 r d) * g (ix2 r (1 : Fin 2))) (Ideal.ofBits .f32 0x00000000#32) := by
  pointwise [addChosen, addExpert, addTerm]

/-- The kernel's step for expert `e` adds what the reference adds for it, when the tokens' logits are real. -/
theorem kadd_eq (x : Vec Ideal S16x1x2048 .bf16) (w : Vec Ideal S2048x4 .f32)
    (h : ∀ r k, ∃ v : ℝ, row (logits x w) r k = (v : EReal)) (i : grid0.Coords) (e : Fin 4) (hi : (i 0).val = e.val)
    (y o : FVec Ideal S16x2048 .f32) :
    kadd o (Cert.KernelIdeal.Gen.k0_pay22 i (Cert.KernelIdeal.Value.gates (flat x) w)) y
      = addChosen (BitVec.ofNat 32 e.val) y o (topIndices (logits x w)) (softmax (topValues (logits x w))) := by
  funext j
  obtain ⟨r, d, rfl⟩ := value_index j
  rw [kadd_apply, addChosen_apply, picked_apply i _ e hi, gates_apply, logits_eq, topIndices_apply, topIndices_apply, softmax_apply, softmax_apply]
  exact step_eq (row (logits x w) r) (h r) e _ _

/-! ## The four steps -/

variable (m : (ℓ : Loc nD τ sig) → Buf (Elt Ideal) ℓ) (c : Dev nD)

/-- The tokens. -/
abbrev argX : Vec Ideal S16x1x2048 .bf16 := m ((c.tc : Thread nD τ).loc Cert.KernelIdeal.main_arg0)
/-- The router's weights. -/
abbrev argW : Vec Ideal S2048x4 .f32 := m ((c.tc : Thread nD τ).loc Cert.KernelIdeal.main_arg1)
/-- The gate and up weights. -/
abbrev argGu : Vec Ideal S4x2048x2816 .fp8e4m3 := m ((c.tc : Thread nD τ).loc Cert.KernelIdeal.main_arg2)
/-- Their scales. -/
abbrev argGus : Vec Ideal S4x2816 .f32 := m ((c.tc : Thread nD τ).loc Cert.KernelIdeal.main_arg3)
/-- The down weights. -/
abbrev argDn : Vec Ideal S4x1408x2048 .fp8e4m3 := m ((c.tc : Thread nD τ).loc Cert.KernelIdeal.main_arg4)
/-- Their scales. -/
abbrev argDns : Vec Ideal S4x2048 .f32 := m ((c.tc : Thread nD τ).loc Cert.KernelIdeal.main_arg5)

/-- A row of scales without its middle axis of one. -/
theorem row_gus (a : Vec Ideal S4x2816 .f32) (e : Fin 4) :
    shapeCast S1x2816 (fun j : S1x1x2816.Idx => a (ix2 e (j 2))) shapeCasts_S1x1x2816_S1x2816 = fun j => a (ix2 e (j 1)) := by
  funext j
  pointwise

/-- The same of the down scales. -/
theorem row_dns (a : Vec Ideal S4x2048 .f32) (e : Fin 4) :
    shapeCast S1x2048 (fun j : S1x1x2048.Idx => a (ix2 e (j 2))) shapeCasts_S1x1x2048_S1x2048 = fun j => a (ix2 e (j 1)) := by
  funext j
  pointwise

/-- Point `e` adds what the reference adds for expert `e`. -/
theorem point_eq (h : ∀ r k, ∃ v : ℝ, row (logits (argX m c) (argW m c)) r k = (v : EReal)) (t : Fin cfg0.N) (e : Fin 4)
    (ht : t.val = e.val) (acc : FVec Ideal S16x2048 .f32) :
    Cert.KernelIdeal.Value.point m c t acc
      = addChosen (BitVec.ofNat 32 e.val) acc (expert (argGu m c) (argGus m c) (argDn m c) (argDns m c) (flat (argX m c)) e)
          (topIndices (logits (argX m c) (argW m c))) (softmax (topValues (logits (argX m c) (argW m c)))) := by
  have hc : (grid0.coords t 0).val = e.val := by
    refine (Idealize.ShloMosaic.Pipeline.Grid.coords_val (G := grid0) t 0 (S := 1) (B := 4) (by decide) rfl).trans ?_
    have := e.isLt
    omega
  have h3 : shapeCast S1x2816 (iblk m c 3 t : Vec Ideal S1x1x2816 .f32) shapeCasts_S1x1x2816_S1x2816 = fun j => argGus m c (ix2 e (j 1)) :=
    (congrArg (fun v => shapeCast S1x2816 v shapeCasts_S1x1x2816_S1x2816) (Cert.KernelIdeal.Value.iblk3_eq m c t e ht)).trans (row_gus _ e)
  have h5 : shapeCast S1x2048 (iblk m c 5 t : Vec Ideal S1x1x2048 .f32) shapeCasts_S1x1x2048_S1x2048 = fun j => argDns m c (ix2 e (j 1)) :=
    (congrArg (fun v => shapeCast S1x2048 v shapeCasts_S1x1x2048_S1x2048) (Cert.KernelIdeal.Value.iblk5_eq m c t e ht)).trans (row_dns _ e)
  unfold Cert.KernelIdeal.Value.point
  rw [step_output, h3, h5, Cert.KernelIdeal.Value.iblk0_eq, Cert.KernelIdeal.Value.iblk1_eq, Cert.KernelIdeal.Value.iblk2_eq m c t e ht,
    Cert.KernelIdeal.Value.iblk4_eq m c t e ht, codes_eq, scales_eq]
  exact kadd_eq (argX m c) (argW m c) h (grid0.coords t) e hc acc _

/-- Both sums start at zero. -/
theorem start_eq : Cert.KernelIdeal.Gen.k0_pay21 (F := Ideal) Cert.KernelIdeal.Gen.k0_pay20 = Cert.ReferenceIdeal.Gen.k0_pay8 := by
  funext j
  pointwise [Cert.KernelIdeal.Gen.k0_pay21, Cert.KernelIdeal.Gen.k0_pay20, Cert.ReferenceIdeal.Gen.k0_pay8]

/-- The kernel's result is the reference's sum, narrowed, when the tokens' logits are real. -/
theorem kernel_total (h : ∀ r k, ∃ v : ℝ, row (logits (argX m c) (argW m c)) r k = (v : EReal)) :
    Cert.KernelIdeal.Value.G6 m c
      = truncf .bf16 (total (argGu m c) (argGus m c) (argDn m c) (argDns m c) (flat (argX m c))
          (topIndices (logits (argX m c) (argW m c))) (softmax (topValues (logits (argX m c) (argW m c))))) bitsLt_bf16_f32 := by
  rw [Cert.KernelIdeal.Value.result_eq, point_eq m c h t0_0 0 rfl, point_eq m c h t0_1 1 rfl, point_eq m c h t0_2 2 rfl,
    point_eq m c h t0_3 3 rfl, start_eq]
  rfl

/-! ## The precondition -/

/-- An extended real whose absolute value is below infinity is real. -/
theorem real_of_abs_lt (x : EReal) (h : max x (-x) < ⊤) : ∃ r : ℝ, x = (r : EReal) := by
  induction x using EReal.rec with
  | bot => exact absurd h (by simp)
  | coe r => exact ⟨r, rfl⟩
  | top => exact absurd h (by simp)

/-- A comparison that came out 1. -/
theorem lt_of_cmp (a b : EReal) (h : Ideal.cmp .olt a b = 1#1) : a < b := by
  by_contra hn
  simp [Ideal.cmp, hn] at h

instance : Subsingleton Cert.Pre_finite.S_.Idx := ⟨fun _ _ => funext fun a => a.elim0⟩

/-- What the precondition says: every token value and every router weight is real. -/
theorem finite_args (x : Vec Ideal S16x1x2048 .bf16) (w : Vec Ideal S2048x4 .f32) (a2 : Vec Ideal S4x2048x2816 .fp8e4m3)
    (a3 : Vec Ideal S4x2816 .f32) (a4 : Vec Ideal S4x1408x2048 .fp8e4m3) (a5 : Vec Ideal S4x2048 .f32)
    (h : Cert.Pre_finite.fn (F := Ideal) x w a2 a3 a4 a5 = fun _ => 1#1) :
    (∀ j, ∃ r : ℝ, x j = (r : EReal)) ∧ ∀ j, ∃ r : ℝ, w j = (r : EReal) := by
  have h0 := congrFun h ix0
  unfold Cert.Pre_finite.fn at h0
  obtain ⟨hx, hw⟩ := IntOp.andi_eq_one.1 h0
  refine ⟨fun j => real_of_abs_lt _ ?_, fun j => real_of_abs_lt _ ?_⟩
  · have e := Host.reduce_andi_all _ _ _ _ _ hx j
    have e' : Ideal.cmp .olt (max (x j) (-(x j))) (Ideal.ofBits .bf16 0x7F80#16) = 1#1 := e
    have t : Ideal.ofBits .bf16 0x7F80#16 = ⊤ := by simp [Ideal.ofBits, Ideal.ieee, -EReal.coe_mul]
    exact lt_of_cmp _ _ (t ▸ e')
  · have e := Host.reduce_andi_all _ _ _ _ _ hw j
    have e' : Ideal.cmp .olt (max (w j) (-(w j))) (Ideal.ofBits .f32 0x7F800000#32) = 1#1 := e
    exact lt_of_cmp _ _ (f32_top ▸ e')

end Experts

end
-- ==== Proof.lean ====
/-
  THE CERTIFICATE: the frames are the generated ones, the ideal program rewrites nothing, and the value claim is the two
  programs' runs (the generated one of the kernel, ReferenceValue's of the reference) with Equation's `kernel_total` between.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem

/-- From memories that agree on the arguments, with finite tokens and router weights, the reference's result is the kernel's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : m' ((c.tc : Thread Cert.ReferenceIdeal.nD Cert.ReferenceIdeal.τ).loc Cert.ReferenceIdeal.main_arg0) = Experts.argX m c)
    (h1 : m' ((c.tc : Thread Cert.ReferenceIdeal.nD Cert.ReferenceIdeal.τ).loc Cert.ReferenceIdeal.main_arg1) = Experts.argW m c)
    (h2 : m' ((c.tc : Thread Cert.ReferenceIdeal.nD Cert.ReferenceIdeal.τ).loc Cert.ReferenceIdeal.main_arg2) = Experts.argGu m c)
    (h3 : m' ((c.tc : Thread Cert.ReferenceIdeal.nD Cert.ReferenceIdeal.τ).loc Cert.ReferenceIdeal.main_arg3) = Experts.argGus m c)
    (h4 : m' ((c.tc : Thread Cert.ReferenceIdeal.nD Cert.ReferenceIdeal.τ).loc Cert.ReferenceIdeal.main_arg4) = Experts.argDn m c)
    (h5 : m' ((c.tc : Thread Cert.ReferenceIdeal.nD Cert.ReferenceIdeal.τ).loc Cert.ReferenceIdeal.main_arg5) = Experts.argDns m c) :
    Cert.ReferenceIdeal.Value.result m' c = Cert.KernelIdeal.Value.G6 m c := by
  obtain ⟨hx, hw⟩ := Experts.finite_args _ _ _ _ _ _ (hpre c)
  refine (Cert.ReferenceIdeal.Value.result_eq m' c).trans ?_
  rw [h0, h1, h2, h3, h4, h5]
  exact (Experts.kernel_total m c (Experts.logits_real _ _ hx hw)).symm

/-- Over the extended reals, kernel and reference compute the same array. -/
theorem equal : Cert.algebraic_KernelIdeal_ReferenceIdeal_pre_finite := by
  intro m ρ m' ρ' hpre hagree
  refine ⟨fun c => Cert.KernelIdeal.Value.G6 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact results_agree m m' hpre c h0 h1 h2 h3 h4 h5

/-- Everything the certificate claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, equal⟩

end Cert.Proof

end
